-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "far" .f32 0x7149F2CA#32 ⊤
  ∧ IdealRules.named_const.Statement Cert.KernelIdeal.κ "inv_sigma" .f32 0x3F4CCCCD#32 ((4 / 5 : ℝ) : EReal)

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v246) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S2x16x3 : Shape := ⟨3, ![2, 16, 3]⟩
abbrev S2x16 : Shape := ⟨2, ![2, 16]⟩
abbrev S2x512x5x3 : Shape := ⟨4, ![2, 512, 5, 3]⟩
abbrev S2x512x3x78 : Shape := ⟨4, ![2, 512, 3, 78]⟩
abbrev S2x512x3x26 : Shape := ⟨4, ![2, 512, 3, 26]⟩
abbrev S2x512 : Shape := ⟨2, ![2, 512]⟩
abbrev S2x512x5 : Shape := ⟨3, ![2, 512, 5]⟩
abbrev S66x16 : Shape := ⟨2, ![66, 16]⟩
abbrev S16 : Shape := ⟨1, ![16]⟩
abbrev S416x128 : Shape := ⟨2, ![416, 128]⟩
abbrev S128 : Shape := ⟨1, ![128]⟩
abbrev S2x512x1x3 : Shape := ⟨4, ![2, 512, 1, 3]⟩
abbrev S2x512x3 : Shape := ⟨3, ![2, 512, 3]⟩
abbrev S_ : Shape := ⟨0, ![]⟩
abbrev S16x128 : Shape := ⟨2, ![16, 128]⟩

class Facts : Prop where
  slices_S2x512x5x3_S2x512x1x3_0_0_1_0 : S2x512x5x3.Slices ![0, 0, 1, 0] S2x512x1x3
  shapeCasts_S2x512x1x3_S2x512x3 : S2x512x1x3.ShapeCasts S2x512x3
  bcast_S_S2x512x3 : S_.BroadcastsInDim S2x512x3 (![] : Fin 0 → Fin S2x512x3.rank)
  bcast_S_S2x512 : S_.BroadcastsInDim S2x512 (![] : Fin 0 → Fin S2x512.rank)
  bcast_S_S16 : S_.BroadcastsInDim S16 (![] : Fin 0 → Fin S16.rank)
  slices_S416x128_S16x128_0_0 : S416x128.Slices ![0, 0] S16x128
  bcast_S_S16x128 : S_.BroadcastsInDim S16x128 (![] : Fin 0 → Fin S16x128.rank)

variable [Facts]

def fn_part1 {F : FTy → Type} [FloatOps F] (main_arg8 : IVec S2x512 32) (main_v4 : IVec S2x512x3 1) (main_v7 : IVec S2x512 1) (main_v10 : IVec S16 1) (main_v14 : IVec S16x128 1) (main_v16 : IVec S2x512 1) (main_v17 : IVec S2x512 32) : IVec S2x512x3 1 × IVec S2x512 1 × IVec S16 1 × IVec S16x128 1 × IVec S2x512 1 :=
  let main_v18 : IVec S2x512 1 := cmpi .slt main_arg8 main_v17
  let main_v19 : IVec S2x512 1 := andi main_v16 main_v18
  (main_v4, main_v7, main_v10, main_v14, main_v19)

def fn {F : FTy → Type} [FloatOps F] (main_arg0 : FVec F S2x16x3 .f32) (main_arg1 : FVec F S2x16 .f32) (main_arg2 : IVec S2x16 32) (main_arg3 : FVec F S2x512x5x3 .f32) (main_arg4 : FVec F S2x512x3x78 .f32) (main_arg5 : FVec F S2x512x3x26 .f32) (main_arg6 : FVec F S2x512 .f32) (main_arg7 : FVec F S2x512x5 .f32) (main_arg8 : IVec S2x512 32) (main_arg9 : IVec S2x512 32) (main_arg10 : FVec F S66x16 .f32) (main_arg11 : FVec F S16 .f32) (main_arg12 : FVec F S416x128 .f32) (main_arg13 : FVec F S128 .f32) (main_arg14 : FVec F S128 .f32) : IVec S2x512x3 1 × IVec S2x512 1 × IVec S16 1 × IVec S16x128 1 × IVec S2x512 1 :=
  let main_v0 : FVec F S2x512x1x3 .f32 := (extractStridedSlice S2x512x1x3 ![0, 0, 1, 0] · slices_S2x512x5x3_S2x512x1x3_0_0_1_0) main_arg3
  let main_v1 : FVec F S2x512x3 .f32 := shapeCast S2x512x3 main_v0 shapeCasts_S2x512x1x3_S2x512x3
  let main_v2 : FVec F S2x512x3 .f32 := Host.absf main_v1
  let main_cst : FVec F S_ .f32 := constant S_ .f32 0x7F800000#32
  let main_v3 : FVec F S2x512x3 .f32 := broadcastInDim S2x512x3 ![] bcast_S_S2x512x3 main_cst
  let main_v4 : IVec S2x512x3 1 := cmpf .olt main_v2 main_v3
  let main_v5 : FVec F S2x512 .f32 := Host.absf main_arg6
  let main_cst_0 : FVec F S_ .f32 := constant S_ .f32 0x7F800000#32
  let main_v6 : FVec F S2x512 .f32 := broadcastInDim S2x512 ![] bcast_S_S2x512 main_cst_0
  let main_v7 : IVec S2x512 1 := cmpf .olt main_v5 main_v6
  let main_v8 : FVec F S16 .f32 := Host.absf main_arg11
  let main_cst_1 : FVec F S_ .f32 := constant S_ .f32 0x7F800000#32
  let main_v9 : FVec F S16 .f32 := broadcastInDim S16 ![] bcast_S_S16 main_cst_1
  let main_v10 : IVec S16 1 := cmpf .olt main_v8 main_v9
  let main_v11 : FVec F S16x128 .f32 := (extractStridedSlice S16x128 ![0, 0] · slices_S416x128_S16x128_0_0) main_arg12
  let main_v12 : FVec F S16x128 .f32 := Host.absf main_v11
  let main_cst_2 : FVec F S_ .f32 := constant S_ .f32 0x7F800000#32
  let main_v13 : FVec F S16x128 .f32 := broadcastInDim S16x128 ![] bcast_S_S16x128 main_cst_2
  let main_v14 : IVec S16x128 1 := cmpf .olt main_v12 main_v13
  let main_c : IVec S_ 32 := constantI S_ 32 0#32
  let main_v15 : IVec S2x512 32 := broadcastInDim S2x512 ![] bcast_S_S2x512 main_c
  let main_v16 : IVec S2x512 1 := cmpi .sge main_arg8 main_v15
  let main_c_3 : IVec S_ 32 := constantI S_ 32 1024#32
  let main_v17 : IVec S2x512 32 := broadcastInDim S2x512 ![] bcast_S_S2x512 main_c_3
  fn_part1 (F := F) main_arg8 main_v4 main_v7 main_v10 main_v14 main_v16 main_v17
-- ==== Kernel.lean ====
abbrev S2x16x3 : Shape := ⟨3, ![2, 16, 3]⟩
abbrev S2x16 : Shape := ⟨2, ![2, 16]⟩
abbrev S2x512x5x3 : Shape := ⟨4, ![2, 512, 5, 3]⟩
abbrev S2x512x3x78 : Shape := ⟨4, ![2, 512, 3, 78]⟩
abbrev S2x512x3x26 : Shape := ⟨4, ![2, 512, 3, 26]⟩
abbrev S2x512 : Shape := ⟨2, ![2, 512]⟩
abbrev S2x512x5 : Shape := ⟨3, ![2, 512, 5]⟩
abbrev S66x16 : Shape := ⟨2, ![66, 16]⟩
abbrev S16 : Shape := ⟨1, ![16]⟩
abbrev S416x128 : Shape := ⟨2, ![416, 128]⟩
abbrev S128 : Shape := ⟨1, ![128]⟩
abbrev S16x72 : Shape := ⟨2, ![16, 72]⟩
abbrev S72x24 : Shape := ⟨2, ![72, 24]⟩
abbrev S26x400 : Shape := ⟨2, ![26, 400]⟩
abbrev S2x512x15 : Shape := ⟨3, ![2, 512, 15]⟩
abbrev S2x15x512 : Shape := ⟨3, ![2, 15, 512]⟩
abbrev S2x512x1 : Shape := ⟨3, ![2, 512, 1]⟩
abbrev S2x1x512 : Shape := ⟨3, ![2, 1, 512]⟩
abbrev S2x512x234 : Shape := ⟨3, ![2, 512, 234]⟩
abbrev S2x512x78 : Shape := ⟨3, ![2, 512, 78]⟩
abbrev S2x3x16 : Shape := ⟨3, ![2, 3, 16]⟩
abbrev S16x128 : Shape := ⟨2, ![16, 128]⟩
abbrev S66x128 : Shape := ⟨2, ![66, 128]⟩
abbrev S1x16 : Shape := ⟨2, ![1, 16]⟩
abbrev S1x128 : Shape := ⟨2, ![1, 128]⟩
abbrev S400x128 : Shape := ⟨2, ![400, 128]⟩
abbrev S2x15360x128 : Shape := ⟨3, ![2, 15360, 128]⟩
abbrev S2x512x32 : Shape := ⟨3, ![2, 512, 32]⟩
abbrev S2x512x94 : Shape := ⟨3, ![2, 512, 94]⟩
abbrev S1x64x15 : Shape := ⟨3, ![1, 64, 15]⟩
abbrev S1x15x512 : Shape := ⟨3, ![1, 15, 512]⟩
abbrev S1x64x1 : Shape := ⟨3, ![1, 64, 1]⟩
abbrev S1x1x512 : Shape := ⟨3, ![1, 1, 512]⟩
abbrev S1x512x1 : Shape := ⟨3, ![1, 512, 1]⟩
abbrev S1x64x78 : Shape := ⟨3, ![1, 64, 78]⟩
abbrev S1x3x16 : Shape := ⟨3, ![1, 3, 16]⟩
abbrev S1x1920x128 : Shape := ⟨3, ![1, 1920, 128]⟩
abbrev S1x64x32 : Shape := ⟨3, ![1, 64, 32]⟩
abbrev S1x64x94 : Shape := ⟨3, ![1, 64, 94]⟩
abbrev S15x512 : Shape := ⟨2, ![15, 512]⟩
abbrev S64x15 : Shape := ⟨2, ![64, 15]⟩
abbrev S64x3 : Shape := ⟨2, ![64, 3]⟩
abbrev S64x1 : Shape := ⟨2, ![64, 1]⟩
abbrev S64x16 : Shape := ⟨2, ![64, 16]⟩
abbrev S1x512 : Shape := ⟨2, ![1, 512]⟩
abbrev S512x1 : Shape := ⟨2, ![512, 1]⟩
abbrev S16x512 : Shape := ⟨2, ![16, 512]⟩
abbrev S512x16 : Shape := ⟨2, ![512, 16]⟩
abbrev S64x512 : Shape := ⟨2, ![64, 512]⟩
abbrev S64 : Shape := ⟨1, ![64]⟩
abbrev S64x32 : Shape := ⟨2, ![64, 32]⟩
abbrev S1920x64 : Shape := ⟨2, ![1920, 64]⟩
abbrev S1920x32 : Shape := ⟨2, ![1920, 32]⟩
abbrev S1920 : Shape := ⟨1, ![1920]⟩
abbrev S1920x1 : Shape := ⟨2, ![1920, 1]⟩
abbrev S1920x512 : Shape := ⟨2, ![1920, 512]⟩
abbrev S1920x16 : Shape := ⟨2, ![1920, 16]⟩
abbrev S1920x72 : Shape := ⟨2, ![1920, 72]⟩
abbrev S1920x24 : Shape := ⟨2, ![1920, 24]⟩
abbrev S1920x26 : Shape := ⟨2, ![1920, 26]⟩
abbrev S1920x400 : Shape := ⟨2, ![1920, 400]⟩
abbrev S1920x66 : Shape := ⟨2, ![1920, 66]⟩
abbrev S1920x128 : Shape := ⟨2, ![1920, 128]⟩
abbrev S64x78 : Shape := ⟨2, ![64, 78]⟩
abbrev S1x1x16 : Shape := ⟨3, ![1, 1, 16]⟩
abbrev S64x94 : Shape := ⟨2, ![64, 94]⟩
abbrev S2x512x30x128 : Shape := ⟨4, ![2, 512, 30, 128]⟩
abbrev S2x512x30 : Shape := ⟨3, ![2, 512, 30]⟩

abbrev nBuf : Space → Nat
  | .hbm => 43
  | .vmem => 35
  | .smem => 0
  | _ => 0

abbrev bufTy : (tb : Table) → Fin (tcTables nBuf tb) → BufTy
  | .hbm, ⟨0, _⟩ => ⟨S2x16x3, .f32⟩
  | .hbm, ⟨1, _⟩ => ⟨S2x16, .f32⟩
  | .hbm, ⟨2, _⟩ => ⟨S2x16, .i32⟩
  | .hbm, ⟨3, _⟩ => ⟨S2x512x5x3, .f32⟩
  | .hbm, ⟨4, _⟩ => ⟨S2x512x3x78, .f32⟩
  | .hbm, ⟨5, _⟩ => ⟨S2x512x3x26, .f32⟩
  | .hbm, ⟨6, _⟩ => ⟨S2x512, .f32⟩
  | .hbm, ⟨7, _⟩ => ⟨S2x512x5, .f32⟩
  | .hbm, ⟨8, _⟩ => ⟨S2x512, .i32⟩
  | .hbm, ⟨9, _⟩ => ⟨S2x512, .i32⟩
  | .hbm, ⟨10, _⟩ => ⟨S66x16, .f32⟩
  | .hbm, ⟨11, _⟩ => ⟨S16, .f32⟩
  | .hbm, ⟨12, _⟩ => ⟨S416x128, .f32⟩
  | .hbm, ⟨13, _⟩ => ⟨S128, .f32⟩
  | .hbm, ⟨14, _⟩ => ⟨S128, .f32⟩
  | .hbm, ⟨15, _⟩ => ⟨S16x72, .f32⟩
  | .hbm, ⟨16, _⟩ => ⟨S16x72, .f32⟩
  | .hbm, ⟨17, _⟩ => ⟨S72x24, .f32⟩
  | .hbm, ⟨18, _⟩ => ⟨S26x400, .f32⟩
  | .hbm, ⟨19, _⟩ => ⟨S2x512x15, .f32⟩
  | .hbm, ⟨20, _⟩ => ⟨S2x15x512, .f32⟩
  | .hbm, ⟨21, _⟩ => ⟨S2x512x1, .f32⟩
  | .hbm, ⟨22, _⟩ => ⟨S2x1x512, .f32⟩
  | .hbm, ⟨23, _⟩ => ⟨S2x512, .f32⟩
  | .hbm, ⟨24, _⟩ => ⟨S2x512x1, .f32⟩
  | .hbm, ⟨25, _⟩ => ⟨S2x512x234, .f32⟩
  | .hbm, ⟨26, _⟩ => ⟨S2x512x78, .f32⟩
  | .hbm, ⟨27, _⟩ => ⟨S2x512x78, .f32⟩
  | .hbm, ⟨28, _⟩ => ⟨S2x512x78, .f32⟩
  | .hbm, ⟨29, _⟩ => ⟨S2x3x16, .f32⟩
  | .hbm, ⟨30, _⟩ => ⟨S16x128, .f32⟩
  | .hbm, ⟨31, _⟩ => ⟨S66x128, .f32⟩
  | .hbm, ⟨32, _⟩ => ⟨S1x16, .f32⟩
  | .hbm, ⟨33, _⟩ => ⟨S16x128, .f32⟩
  | .hbm, ⟨34, _⟩ => ⟨S1x128, .f32⟩
  | .hbm, ⟨35, _⟩ => ⟨S400x128, .f32⟩
  | .hbm, ⟨36, _⟩ => ⟨S1x128, .f32⟩
  | .hbm, ⟨37, _⟩ => ⟨S1x128, .f32⟩
  | .hbm, ⟨38, _⟩ => ⟨S2x15360x128, .f32⟩
  | .hbm, ⟨39, _⟩ => ⟨S2x512x32, .i32⟩
  | .hbm, ⟨40, _⟩ => ⟨S2x512x94, .f32⟩
  | .hbm, ⟨41, _⟩ => ⟨S2x512x30x128, .f32⟩
  | .hbm, ⟨42, _⟩ => ⟨S2x512x30, .i32⟩
  | .local _ .vmem, ⟨0, _⟩ => ⟨S1x64x15, .f32⟩
  | .local _ .vmem, ⟨1, _⟩ => ⟨S1x64x15, .f32⟩
  | .local _ .vmem, ⟨2, _⟩ => ⟨S1x15x512, .f32⟩
  | .local _ .vmem, ⟨3, _⟩ => ⟨S1x15x512, .f32⟩
  | .local _ .vmem, ⟨4, _⟩ => ⟨S1x64x1, .f32⟩
  | .local _ .vmem, ⟨5, _⟩ => ⟨S1x64x1, .f32⟩
  | .local _ .vmem, ⟨6, _⟩ => ⟨S1x1x512, .f32⟩
  | .local _ .vmem, ⟨7, _⟩ => ⟨S1x1x512, .f32⟩
  | .local _ .vmem, ⟨8, _⟩ => ⟨S1x64x1, .f32⟩
  | .local _ .vmem, ⟨9, _⟩ => ⟨S1x64x1, .f32⟩
  | .local _ .vmem, ⟨10, _⟩ => ⟨S1x512x1, .f32⟩
  | .local _ .vmem, ⟨11, _⟩ => ⟨S1x512x1, .f32⟩
  | .local _ .vmem, ⟨12, _⟩ => ⟨S1x64x78, .f32⟩
  | .local _ .vmem, ⟨13, _⟩ => ⟨S1x64x78, .f32⟩
  | .local _ .vmem, ⟨14, _⟩ => ⟨S1x64x78, .f32⟩
  | .local _ .vmem, ⟨15, _⟩ => ⟨S1x64x78, .f32⟩
  | .local _ .vmem, ⟨16, _⟩ => ⟨S1x64x78, .f32⟩
  | .local _ .vmem, ⟨17, _⟩ => ⟨S1x64x78, .f32⟩
  | .local _ .vmem, ⟨18, _⟩ => ⟨S1x3x16, .f32⟩
  | .local _ .vmem, ⟨19, _⟩ => ⟨S1x3x16, .f32⟩
  | .local _ .vmem, ⟨20, _⟩ => ⟨S16x72, .f32⟩
  | .local _ .vmem, ⟨21, _⟩ => ⟨S16x72, .f32⟩
  | .local _ .vmem, ⟨22, _⟩ => ⟨S72x24, .f32⟩
  | .local _ .vmem, ⟨23, _⟩ => ⟨S26x400, .f32⟩
  | .local _ .vmem, ⟨24, _⟩ => ⟨S66x128, .f32⟩
  | .local _ .vmem, ⟨25, _⟩ => ⟨S400x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x1920x128, .f32⟩
  | .local _ .vmem, ⟨30, _⟩ => ⟨S1x1920x128, .f32⟩
  | .local _ .vmem, ⟨31, _⟩ => ⟨S1x64x32, .i32⟩
  | .local _ .vmem, ⟨32, _⟩ => ⟨S1x64x32, .i32⟩
  | .local _ .vmem, ⟨33, _⟩ => ⟨S1x64x94, .f32⟩
  | .local _ .vmem, ⟨34, _⟩ => ⟨S1x64x94, .f32⟩
  | _, _ => ⟨S2x16x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_cst_1 : Ref sig .tc := ⟨.hbm, 17, rfl⟩
abbrev main_cst_2 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19_0 : Ref sig .tc := ⟨.hbm, 38, rfl⟩
abbrev main_v19_1 : Ref sig .tc := ⟨.hbm, 39, rfl⟩
abbrev main_v19_2 : Ref sig .tc := ⟨.hbm, 40, rfl⟩
abbrev main_v20 : Ref sig .tc := ⟨.hbm, 41, rfl⟩
abbrev main_v21 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x15x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x78 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x78 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x78 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S16x72 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x72 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S72x24 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S26x400 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S66x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S400x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x1920x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x64x32 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x64x94 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== KernelIdeal.lean ====
variable {F : FTy → Type} [FloatOps F] [Named F]
def κ : String → Option EReal := fun
  | "far" => some ⊤
  | "inv_sigma" => some ((4 / 5 : ℝ) : EReal)
  | _ => none
-- ==== ReferenceIdeal.lean ====
abbrev S2x16x3 : Shape := ⟨3, ![2, 16, 3]⟩
abbrev S2x16 : Shape := ⟨2, ![2, 16]⟩
abbrev S2x512x5x3 : Shape := ⟨4, ![2, 512, 5, 3]⟩
abbrev S2x512x3x78 : Shape := ⟨4, ![2, 512, 3, 78]⟩
abbrev S2x512x3x26 : Shape := ⟨4, ![2, 512, 3, 26]⟩
abbrev S2x512 : Shape := ⟨2, ![2, 512]⟩
abbrev S2x512x5 : Shape := ⟨3, ![2, 512, 5]⟩
abbrev S66x16 : Shape := ⟨2, ![66, 16]⟩
abbrev S16 : Shape := ⟨1, ![16]⟩
abbrev S416x128 : Shape := ⟨2, ![416, 128]⟩
abbrev S128 : Shape := ⟨1, ![128]⟩
abbrev S2x512x1x3 : Shape := ⟨4, ![2, 512, 1, 3]⟩
abbrev S2x512x3 : Shape := ⟨3, ![2, 512, 3]⟩
abbrev S2x512x1 : Shape := ⟨3, ![2, 512, 1]⟩
abbrev S_ : Shape := ⟨0, ![]⟩
abbrev S2x1x512 : Shape := ⟨3, ![2, 1, 512]⟩
abbrev S2x512x512 : Shape := ⟨3, ![2, 512, 512]⟩
abbrev S2x1x512x3 : Shape := ⟨4, ![2, 1, 512, 3]⟩
abbrev S2x512x512x3 : Shape := ⟨4, ![2, 512, 512, 3]⟩
abbrev S2x512x30 : Shape := ⟨3, ![2, 512, 30]⟩
abbrev S2x512x16x3 : Shape := ⟨4, ![2, 512, 16, 3]⟩
abbrev S2x512x8x3 : Shape := ⟨4, ![2, 512, 8, 3]⟩
abbrev S2x512x24x3 : Shape := ⟨4, ![2, 512, 24, 3]⟩
abbrev S2x512x1x24x3 : Shape := ⟨5, ![2, 512, 1, 24, 3]⟩
abbrev S2x1x512x24x3 : Shape := ⟨5, ![2, 1, 512, 24, 3]⟩
abbrev S2x512x512x24x3 : Shape := ⟨5, ![2, 512, 512, 24, 3]⟩
abbrev S2x512x512x24 : Shape := ⟨4, ![2, 512, 512, 24]⟩
abbrev S2x512x30x1 : Shape := ⟨4, ![2, 512, 30, 1]⟩
abbrev S2x512x30x24 : Shape := ⟨4, ![2, 512, 30, 24]⟩
abbrev S2x512x30x24x1 : Shape := ⟨5, ![2, 512, 30, 24, 1]⟩
abbrev S1 : Shape := ⟨1, ![1]⟩
abbrev S1x1x1x1x1 : Shape := ⟨5, ![1, 1, 1, 1, 1]⟩
abbrev S2x512x30x25 : Shape := ⟨4, ![2, 512, 30, 25]⟩
abbrev S2x512x30x25x1 : Shape := ⟨5, ![2, 512, 30, 25, 1]⟩
abbrev S1x1x1x1x16 : Shape := ⟨5, ![1, 1, 1, 1, 16]⟩
abbrev S2x512x30x25x16 : Shape := ⟨5, ![2, 512, 30, 25, 16]⟩
abbrev S2x512x30x400 : Shape := ⟨4, ![2, 512, 30, 400]⟩
abbrev S2x512x512x1 : Shape := ⟨4, ![2, 512, 512, 1]⟩
abbrev S1x1x1x1 : Shape := ⟨4, ![1, 1, 1, 1]⟩
abbrev S1x1x1x66 : Shape := ⟨4, ![1, 1, 1, 66]⟩
abbrev S2x512x30x66 : Shape := ⟨4, ![2, 512, 30, 66]⟩
abbrev S2x512x30x16 : Shape := ⟨4, ![2, 512, 30, 16]⟩
abbrev S1x1x1x16 : Shape := ⟨4, ![1, 1, 1, 16]⟩
abbrev S2x512x30x416 : Shape := ⟨4, ![2, 512, 30, 416]⟩
abbrev S2x512x30x128 : Shape := ⟨4, ![2, 512, 30, 128]⟩
abbrev S1x1x1x128 : Shape := ⟨4, ![1, 1, 1, 128]⟩
abbrev S2x512x78x3 : Shape := ⟨4, ![2, 512, 78, 3]⟩
abbrev S2x1x16x3 : Shape := ⟨4, ![2, 1, 16, 3]⟩
abbrev S2x512x94x3 : Shape := ⟨4, ![2, 512, 94, 3]⟩
abbrev S2x512x94 : Shape := ⟨3, ![2, 512, 94]⟩

abbrev nBuf : Space → Nat
  | .hbm => 399
  | .vmem => 0
  | .smem => 0
  | _ => 0

abbrev hbmTy0_0 (i : Nat) : BufTy := match i % 128 with
  | 0 => ⟨S2x16x3, .f32⟩
  | 1 => ⟨S2x16, .f32⟩
  | 2 => ⟨S2x16, .i32⟩
  | 3 => ⟨S2x512x5x3, .f32⟩
  | 4 => ⟨S2x512x3x78, .f32⟩
  | 5 => ⟨S2x512x3x26, .f32⟩
  | 6 => ⟨S2x512, .f32⟩
  | 7 => ⟨S2x512x5, .f32⟩
  | 8 => ⟨S2x512, .i32⟩
  | 9 => ⟨S2x512, .i32⟩
  | 10 => ⟨S66x16, .f32⟩
  | 11 => ⟨S16, .f32⟩
  | 12 => ⟨S416x128, .f32⟩
  | 13 => ⟨S128, .f32⟩
  | 14 => ⟨S128, .f32⟩
  | 15 => ⟨S2x512x1x3, .f32⟩
  | 16 => ⟨S2x512x3, .f32⟩
  | 17 => ⟨S2x512x1x3, .f32⟩
  | 18 => ⟨S2x512x3, .f32⟩
  | 19 => ⟨S2x512x3, .f32⟩
  | 20 => ⟨S2x512x1x3, .f32⟩
  | 21 => ⟨S2x512x3, .f32⟩
  | 22 => ⟨S2x512x1x3, .f32⟩
  | 23 => ⟨S2x512x3, .f32⟩
  | 24 => ⟨S2x512x3, .f32⟩
  | 25 => ⟨S2x512x1, .f32⟩
  | 26 => ⟨S2x512, .f32⟩
  | 27 => ⟨S2x512x1, .f32⟩
  | 28 => ⟨S2x512, .f32⟩
  | 29 => ⟨S2x512x1, .f32⟩
  | 30 => ⟨S2x512, .f32⟩
  | 31 => ⟨S2x512x1, .f32⟩
  | 32 => ⟨S2x512, .f32⟩
  | 33 => ⟨S2x512x1, .f32⟩
  | 34 => ⟨S2x512, .f32⟩
  | 35 => ⟨S2x512x1, .f32⟩
  | 36 => ⟨S2x512, .f32⟩
  | 37 => ⟨S2x512, .f32⟩
  | 38 => ⟨S2x512, .f32⟩
  | 39 => ⟨S2x512, .f32⟩
  | 40 => ⟨S2x512, .f32⟩
  | 41 => ⟨S2x512, .f32⟩
  | 42 => ⟨S2x512, .f32⟩
  | 43 => ⟨S2x512, .f32⟩
  | 44 => ⟨S2x512, .f32⟩
  | 45 => ⟨S2x512, .f32⟩
  | 46 => ⟨S2x512x1, .f32⟩
  | 47 => ⟨S2x512x1, .f32⟩
  | 48 => ⟨S2x512x1, .f32⟩
  | 49 => ⟨S2x512x3, .f32⟩
  | 50 => ⟨S_, .f32⟩
  | 51 => ⟨S2x512x3, .f32⟩
  | 52 => ⟨S2x512x3, .f32⟩
  | 53 => ⟨S_, .f32⟩
  | 54 => ⟨S2x512x3, .f32⟩
  | 55 => ⟨S2x512x3, .f32⟩
  | 56 => ⟨S2x512x3, .f32⟩
  | 57 => ⟨S_, .f32⟩
  | 58 => ⟨S2x512x3, .f32⟩
  | 59 => ⟨S2x512x3, .f32⟩
  | 60 => ⟨S2x512x3, .f32⟩
  | 61 => ⟨S2x512x1x3, .f32⟩
  | 62 => ⟨S2x512x3, .f32⟩
  | 63 => ⟨S2x512x3, .f32⟩
  | 64 => ⟨S2x512x1x3, .f32⟩
  | 65 => ⟨S2x512x3, .f32⟩
  | 66 => ⟨S2x512x1x3, .f32⟩
  | 67 => ⟨S2x512x3, .f32⟩
  | 68 => ⟨S2x512x1x3, .f32⟩
  | 69 => ⟨S2x512x3, .f32⟩
  | 70 => ⟨S2x512x1x3, .f32⟩
  | 71 => ⟨S2x512x3, .f32⟩
  | 72 => ⟨S2x1x512, .f32⟩
  | 73 => ⟨S2x512x1, .f32⟩
  | 74 => ⟨S2x512x512, .f32⟩
  | 75 => ⟨S2x512x512, .f32⟩
  | 76 => ⟨S2x512x512, .f32⟩
  | 77 => ⟨S2x1x512x3, .f32⟩
  | 78 => ⟨S2x512x1x3, .f32⟩
  | 79 => ⟨S2x512x512x3, .f32⟩
  | 80 => ⟨S2x512x512x3, .f32⟩
  | 81 => ⟨S2x512x512x3, .f32⟩
  | 82 => ⟨S2x512x512x3, .f32⟩
  | 83 => ⟨S_, .f32⟩
  | 84 => ⟨S2x512x512, .f32⟩
  | 85 => ⟨S_, .f32⟩
  | 86 => ⟨S2x512x512, .f32⟩
  | 87 => ⟨S2x512x512, .f32⟩
  | 88 => ⟨S2x512x512, .f32⟩
  | 89 => ⟨S2x512x512, .f32⟩
  | 90 => ⟨S_, .f32⟩
  | 91 => ⟨S2x512, .f32⟩
  | 92 => ⟨S2x512x1, .f32⟩
  | 93 => ⟨S_, .f32⟩
  | 94 => ⟨S2x512x512, .f32⟩
  | 95 => ⟨S2x512x512, .f32⟩
  | 96 => ⟨S2x512x512, .f32⟩
  | 97 => ⟨S2x512x512, .f32⟩
  | 98 => ⟨S2x512x512, .f32⟩
  | 99 => ⟨S2x512x512, .f32⟩
  | 100 => ⟨S2x512x30, .f32⟩
  | 101 => ⟨S2x512x30, .i32⟩
  | 102 => ⟨S2x512x30, .f32⟩
  | 103 => ⟨S2x512x1x3, .f32⟩
  | 104 => ⟨S2x512x1x3, .f32⟩
  | 105 => ⟨S2x512x1x3, .f32⟩
  | 106 => ⟨S2x512x1x3, .f32⟩
  | 107 => ⟨S2x512x1x3, .f32⟩
  | 108 => ⟨S2x512x1x3, .f32⟩
  | 109 => ⟨S2x512x1x3, .f32⟩
  | 110 => ⟨S2x512x1x3, .f32⟩
  | 111 => ⟨S2x512x1x3, .f32⟩
  | 112 => ⟨S2x512x1x3, .f32⟩
  | 113 => ⟨S2x512x1x3, .f32⟩
  | 114 => ⟨S2x512x1x3, .f32⟩
  | 115 => ⟨S2x512x1x3, .f32⟩
  | 116 => ⟨S2x512x1x3, .f32⟩
  | 117 => ⟨S2x512x1x3, .f32⟩
  | 118 => ⟨S2x512x1x3, .f32⟩
  | 119 => ⟨S2x512x1x3, .f32⟩
  | 120 => ⟨S2x512x1x3, .f32⟩
  | 121 => ⟨S2x512x1x3, .f32⟩
  | 122 => ⟨S2x512x1x3, .f32⟩
  | 123 => ⟨S2x512x1x3, .f32⟩
  | 124 => ⟨S2x512x1x3, .f32⟩
  | 125 => ⟨S2x512x1x3, .f32⟩
  | 126 => ⟨S2x512x1x3, .f32⟩
  | 127 => ⟨S2x512x16x3, .f32⟩
  | _ => ⟨S2x16x3, .f32⟩

abbrev hbmTy0_1 (i : Nat) : BufTy := match i % 128 with
  | 0 => ⟨S2x512x8x3, .f32⟩
  | 1 => ⟨S2x512x24x3, .f32⟩
  | 2 => ⟨S2x512x1x3, .f32⟩
  | 3 => ⟨S2x512x1x3, .f32⟩
  | 4 => ⟨S2x512x1x3, .f32⟩
  | 5 => ⟨S2x512x1x3, .f32⟩
  | 6 => ⟨S2x512x1x3, .f32⟩
  | 7 => ⟨S2x512x1x3, .f32⟩
  | 8 => ⟨S2x512x1x3, .f32⟩
  | 9 => ⟨S2x512x1x3, .f32⟩
  | 10 => ⟨S2x512x1x3, .f32⟩
  | 11 => ⟨S2x512x1x3, .f32⟩
  | 12 => ⟨S2x512x1x3, .f32⟩
  | 13 => ⟨S2x512x1x3, .f32⟩
  | 14 => ⟨S2x512x1x3, .f32⟩
  | 15 => ⟨S2x512x1x3, .f32⟩
  | 16 => ⟨S2x512x1x3, .f32⟩
  | 17 => ⟨S2x512x1x3, .f32⟩
  | 18 => ⟨S2x512x1x3, .f32⟩
  | 19 => ⟨S2x512x1x3, .f32⟩
  | 20 => ⟨S2x512x1x3, .f32⟩
  | 21 => ⟨S2x512x1x3, .f32⟩
  | 22 => ⟨S2x512x1x3, .f32⟩
  | 23 => ⟨S2x512x1x3, .f32⟩
  | 24 => ⟨S2x512x1x3, .f32⟩
  | 25 => ⟨S2x512x1x3, .f32⟩
  | 26 => ⟨S2x512x16x3, .f32⟩
  | 27 => ⟨S2x512x8x3, .f32⟩
  | 28 => ⟨S2x512x24x3, .f32⟩
  | 29 => ⟨S2x512x1x24x3, .f32⟩
  | 30 => ⟨S2x1x512x24x3, .f32⟩
  | 31 => ⟨S2x512x512x24x3, .f32⟩
  | 32 => ⟨S2x512x512x24x3, .f32⟩
  | 33 => ⟨S2x512x512x24x3, .f32⟩
  | 34 => ⟨S2x512x512x24x3, .f32⟩
  | 35 => ⟨S_, .f32⟩
  | 36 => ⟨S2x512x512x24, .f32⟩
  | 37 => ⟨S_, .f32⟩
  | 38 => ⟨S2x512x512x24, .f32⟩
  | 39 => ⟨S2x512x512x24, .f32⟩
  | 40 => ⟨S2x512x512x24, .f32⟩
  | 41 => ⟨S2x512x30x1, .i32⟩
  | 42 => ⟨S2x512x30x24, .i32⟩
  | 43 => ⟨S_, .i32⟩
  | 44 => ⟨S2x512x30x24, .i32⟩
  | 45 => ⟨S2x512x30x24, .i1⟩
  | 46 => ⟨S_, .i32⟩
  | 47 => ⟨S2x512x30x24, .i32⟩
  | 48 => ⟨S2x512x30x24, .i32⟩
  | 49 => ⟨S2x512x30x24, .i32⟩
  | 50 => ⟨S2x512x30x24x1, .i32⟩
  | 51 => ⟨S1, .i32⟩
  | 52 => ⟨S_, .i32⟩
  | 53 => ⟨S2x512x30x24x1, .i32⟩
  | 54 => ⟨S2x512x30x24x1, .i1⟩
  | 55 => ⟨S1x1x1x1x1, .i32⟩
  | 56 => ⟨S2x512x30x24x1, .i32⟩
  | 57 => ⟨S2x512x30x24x1, .i1⟩
  | 58 => ⟨S2x512x30x24x1, .i1⟩
  | 59 => ⟨S_, .i1⟩
  | 60 => ⟨S2x512x30x24, .i1⟩
  | 61 => ⟨S2x512x30x24, .f32⟩
  | 62 => ⟨S_, .f32⟩
  | 63 => ⟨S2x512x30x24, .f32⟩
  | 64 => ⟨S2x512x30x24, .f32⟩
  | 65 => ⟨S2x512x30x1, .f32⟩
  | 66 => ⟨S2x512x30x25, .f32⟩
  | 67 => ⟨S_, .f32⟩
  | 68 => ⟨S1, .f32⟩
  | 69 => ⟨S_, .f32⟩
  | 70 => ⟨S1, .f32⟩
  | 71 => ⟨S_, .f32⟩
  | 72 => ⟨S1, .f32⟩
  | 73 => ⟨S_, .f32⟩
  | 74 => ⟨S1, .f32⟩
  | 75 => ⟨S_, .f32⟩
  | 76 => ⟨S1, .f32⟩
  | 77 => ⟨S_, .f32⟩
  | 78 => ⟨S1, .f32⟩
  | 79 => ⟨S_, .f32⟩
  | 80 => ⟨S1, .f32⟩
  | 81 => ⟨S_, .f32⟩
  | 82 => ⟨S1, .f32⟩
  | 83 => ⟨S_, .f32⟩
  | 84 => ⟨S1, .f32⟩
  | 85 => ⟨S_, .f32⟩
  | 86 => ⟨S1, .f32⟩
  | 87 => ⟨S_, .f32⟩
  | 88 => ⟨S1, .f32⟩
  | 89 => ⟨S_, .f32⟩
  | 90 => ⟨S1, .f32⟩
  | 91 => ⟨S_, .f32⟩
  | 92 => ⟨S1, .f32⟩
  | 93 => ⟨S_, .f32⟩
  | 94 => ⟨S1, .f32⟩
  | 95 => ⟨S_, .f32⟩
  | 96 => ⟨S1, .f32⟩
  | 97 => ⟨S_, .f32⟩
  | 98 => ⟨S1, .f32⟩
  | 99 => ⟨S16, .f32⟩
  | 100 => ⟨S2x512x30x25x1, .f32⟩
  | 101 => ⟨S1x1x1x1x16, .f32⟩
  | 102 => ⟨S2x512x30x25x16, .f32⟩
  | 103 => ⟨S2x512x30x25x16, .f32⟩
  | 104 => ⟨S2x512x30x25x16, .f32⟩
  | 105 => ⟨S_, .f32⟩
  | 106 => ⟨S2x512x30x25x16, .f32⟩
  | 107 => ⟨S2x512x30x25x16, .f32⟩
  | 108 => ⟨S2x512x30x25x16, .f32⟩
  | 109 => ⟨S2x512x30x25x16, .f32⟩
  | 110 => ⟨S2x512x30x25x16, .f32⟩
  | 111 => ⟨S2x512x30x400, .f32⟩
  | 112 => ⟨S2x512x1, .i32⟩
  | 113 => ⟨S2x1x512, .i32⟩
  | 114 => ⟨S2x512x512, .i32⟩
  | 115 => ⟨S2x512x512, .i32⟩
  | 116 => ⟨S2x512x512, .i32⟩
  | 117 => ⟨S2x512x512x1, .i32⟩
  | 118 => ⟨S2x512x30x1, .i32⟩
  | 119 => ⟨S_, .i32⟩
  | 120 => ⟨S2x512x30x1, .i32⟩
  | 121 => ⟨S2x512x30x1, .i1⟩
  | 122 => ⟨S_, .i32⟩
  | 123 => ⟨S2x512x30x1, .i32⟩
  | 124 => ⟨S2x512x30x1, .i32⟩
  | 125 => ⟨S2x512x30x1, .i32⟩
  | 126 => ⟨S1, .i32⟩
  | 127 => ⟨S_, .i32⟩
  | _ => ⟨S2x16x3, .f32⟩

abbrev hbmTy0_2 (i : Nat) : BufTy := match i % 128 with
  | 0 => ⟨S2x512x30x1, .i32⟩
  | 1 => ⟨S2x512x30x1, .i1⟩
  | 2 => ⟨S1x1x1x1, .i32⟩
  | 3 => ⟨S2x512x30x1, .i32⟩
  | 4 => ⟨S2x512x30x1, .i1⟩
  | 5 => ⟨S2x512x30x1, .i1⟩
  | 6 => ⟨S_, .i1⟩
  | 7 => ⟨S2x512x30, .i1⟩
  | 8 => ⟨S2x512x30x1, .i32⟩
  | 9 => ⟨S2x512x30x1, .i1⟩
  | 10 => ⟨S_, .i32⟩
  | 11 => ⟨S2x512x30x1, .i32⟩
  | 12 => ⟨S2x512x30x1, .i32⟩
  | 13 => ⟨S2x512x30, .i32⟩
  | 14 => ⟨S2x512x1, .i32⟩
  | 15 => ⟨S2x1x512, .i32⟩
  | 16 => ⟨S2x512x512, .i32⟩
  | 17 => ⟨S2x512x512, .i32⟩
  | 18 => ⟨S2x512x512, .i32⟩
  | 19 => ⟨S_, .i32⟩
  | 20 => ⟨S2x512x512, .i32⟩
  | 21 => ⟨S2x512x512, .i1⟩
  | 22 => ⟨S2x512x512, .i32⟩
  | 23 => ⟨S_, .i32⟩
  | 24 => ⟨S2x512x512, .i32⟩
  | 25 => ⟨S2x512x512, .i32⟩
  | 26 => ⟨S_, .i32⟩
  | 27 => ⟨S2x512x512, .i32⟩
  | 28 => ⟨S2x512x512, .i32⟩
  | 29 => ⟨S2x512x512x1, .i32⟩
  | 30 => ⟨S2x512x30x1, .i32⟩
  | 31 => ⟨S_, .i32⟩
  | 32 => ⟨S2x512x30x1, .i32⟩
  | 33 => ⟨S2x512x30x1, .i1⟩
  | 34 => ⟨S_, .i32⟩
  | 35 => ⟨S2x512x30x1, .i32⟩
  | 36 => ⟨S2x512x30x1, .i32⟩
  | 37 => ⟨S2x512x30x1, .i32⟩
  | 38 => ⟨S1, .i32⟩
  | 39 => ⟨S_, .i32⟩
  | 40 => ⟨S2x512x30x1, .i32⟩
  | 41 => ⟨S2x512x30x1, .i1⟩
  | 42 => ⟨S1x1x1x1, .i32⟩
  | 43 => ⟨S2x512x30x1, .i32⟩
  | 44 => ⟨S2x512x30x1, .i1⟩
  | 45 => ⟨S2x512x30x1, .i1⟩
  | 46 => ⟨S_, .i1⟩
  | 47 => ⟨S2x512x30, .i1⟩
  | 48 => ⟨S2x512x30x1, .i32⟩
  | 49 => ⟨S2x512x30x1, .i1⟩
  | 50 => ⟨S_, .i32⟩
  | 51 => ⟨S2x512x30x1, .i32⟩
  | 52 => ⟨S2x512x30x1, .i32⟩
  | 53 => ⟨S2x512x30, .i32⟩
  | 54 => ⟨S_, .i32⟩
  | 55 => ⟨S2x512x30, .i32⟩
  | 56 => ⟨S2x512x30, .i32⟩
  | 57 => ⟨S_, .i32⟩
  | 58 => ⟨S_, .i32⟩
  | 59 => ⟨S_, .i32⟩
  | 60 => ⟨S2x512x30, .i32⟩
  | 61 => ⟨S2x512x30, .i32⟩
  | 62 => ⟨S_, .i32⟩
  | 63 => ⟨S2x512x30, .i32⟩
  | 64 => ⟨S2x512x30, .i32⟩
  | 65 => ⟨S2x512x30, .i32⟩
  | 66 => ⟨S_, .i32⟩
  | 67 => ⟨S2x512x30, .i32⟩
  | 68 => ⟨S2x512x30, .i32⟩
  | 69 => ⟨S_, .i32⟩
  | 70 => ⟨S2x512x30, .i32⟩
  | 71 => ⟨S2x512x30, .i32⟩
  | 72 => ⟨S2x512x30, .i32⟩
  | 73 => ⟨S2x512x30x1, .i32⟩
  | 74 => ⟨S1x1x1x66, .i32⟩
  | 75 => ⟨S2x512x30x66, .i32⟩
  | 76 => ⟨S2x512x30x66, .i32⟩
  | 77 => ⟨S2x512x30x66, .i1⟩
  | 78 => ⟨S2x512x30x66, .f32⟩
  | 79 => ⟨S2x512x30x16, .f32⟩
  | 80 => ⟨S1x1x1x16, .f32⟩
  | 81 => ⟨S2x512x30x16, .f32⟩
  | 82 => ⟨S2x512x30x16, .f32⟩
  | 83 => ⟨S2x512x30x416, .f32⟩
  | 84 => ⟨S2x512x30x128, .f32⟩
  | 85 => ⟨S_, .f32⟩
  | 86 => ⟨S2x512x30, .f32⟩
  | 87 => ⟨S2x512x30x1, .f32⟩
  | 88 => ⟨S_, .f32⟩
  | 89 => ⟨S2x512x30x1, .f32⟩
  | 90 => ⟨S2x512x30x1, .f32⟩
  | 91 => ⟨S_, .i32⟩
  | 92 => ⟨S_, .f32⟩
  | 93 => ⟨S2x512x30, .f32⟩
  | 94 => ⟨S2x512x30x1, .f32⟩
  | 95 => ⟨S_, .f32⟩
  | 96 => ⟨S2x512x30x1, .f32⟩
  | 97 => ⟨S2x512x30x1, .f32⟩
  | 98 => ⟨S2x512x30x128, .f32⟩
  | 99 => ⟨S2x512x30x128, .f32⟩
  | 100 => ⟨S2x512x30x128, .f32⟩
  | 101 => ⟨S_, .f32⟩
  | 102 => ⟨S_, .f32⟩
  | 103 => ⟨S_, .f32⟩
  | 104 => ⟨S_, .f32⟩
  | 105 => ⟨S2x512x30, .f32⟩
  | 106 => ⟨S2x512x30x1, .f32⟩
  | 107 => ⟨S2x512x30x1, .f32⟩
  | 108 => ⟨S2x512x30x1, .f32⟩
  | 109 => ⟨S_, .f32⟩
  | 110 => ⟨S_, .i1⟩
  | 111 => ⟨S_, .f32⟩
  | 112 => ⟨S_, .f32⟩
  | 113 => ⟨S2x512x30x1, .f32⟩
  | 114 => ⟨S2x512x30x1, .f32⟩
  | 115 => ⟨S2x512x30x128, .f32⟩
  | 116 => ⟨S2x512x30x128, .f32⟩
  | 117 => ⟨S_, .f32⟩
  | 118 => ⟨S2x512x30x1, .f32⟩
  | 119 => ⟨S2x512x30x1, .f32⟩
  | 120 => ⟨S2x512x30x1, .f32⟩
  | 121 => ⟨S2x512x30x128, .f32⟩
  | 122 => ⟨S2x512x30x128, .f32⟩
  | 123 => ⟨S1x1x1x128, .f32⟩
  | 124 => ⟨S2x512x30x128, .f32⟩
  | 125 => ⟨S2x512x30x128, .f32⟩
  | 126 => ⟨S1x1x1x128, .f32⟩
  | 127 => ⟨S2x512x30x128, .f32⟩
  | _ => ⟨S2x16x3, .f32⟩

abbrev hbmTy0_3 (i : Nat) : BufTy := match i % 128 with
  | 0 => ⟨S2x512x30x128, .f32⟩
  | 1 => ⟨S2x512x78x3, .f32⟩
  | 2 => ⟨S2x1x16x3, .f32⟩
  | 3 => ⟨S2x512x16x3, .f32⟩
  | 4 => ⟨S2x512x94x3, .f32⟩
  | 5 => ⟨S2x512x1x3, .f32⟩
  | 6 => ⟨S2x512x94x3, .f32⟩
  | 7 => ⟨S2x512x94x3, .f32⟩
  | 8 => ⟨S2x512x94x3, .f32⟩
  | 9 => ⟨S_, .f32⟩
  | 10 => ⟨S2x512x94, .f32⟩
  | 11 => ⟨S_, .f32⟩
  | 12 => ⟨S2x512x94, .f32⟩
  | 13 => ⟨S2x512x94, .f32⟩
  | 14 => ⟨S2x512x94, .f32⟩
  | _ => ⟨S2x16x3, .f32⟩

abbrev hbmTy (i : Nat) : BufTy := match i / 128 with
  | 0 => hbmTy0_0 i
  | 1 => hbmTy0_1 i
  | 2 => hbmTy0_2 i
  | 3 => hbmTy0_3 i
  | _ => ⟨S2x16x3, .f32⟩

abbrev bufTy : (tb : Table) → Fin (tcTables nBuf tb) → BufTy
  | .hbm, ⟨i, _⟩ => hbmTy i
  | _, _ => ⟨S2x16x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_v36 : Ref sig .tc := ⟨.hbm, 52, rfl⟩
abbrev main_cst_0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_1 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_2 : Ref sig .tc := ⟨.hbm, 83, rfl⟩
abbrev main_v65 : Ref sig .tc := ⟨.hbm, 84, rfl⟩
abbrev main_cst_3 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_4 : Ref sig .tc := ⟨.hbm, 90, rfl⟩
abbrev main_v70 : Ref sig .tc := ⟨.hbm, 91, rfl⟩
abbrev main_v71 : Ref sig .tc := ⟨.hbm, 92, rfl⟩
abbrev main_cst_5 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_values : Ref sig .tc := ⟨.hbm, 100, rfl⟩
abbrev main_indices : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_cst_6 : Ref sig .tc := ⟨.hbm, 163, rfl⟩
abbrev main_v139 : Ref sig .tc := ⟨.hbm, 164, rfl⟩
abbrev main_cst_7 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_call0_c : Ref sig .tc := ⟨.hbm, 171, rfl⟩
abbrev main_call0_v0 : Ref sig .tc := ⟨.hbm, 172, rfl⟩
abbrev main_call0_v1 : Ref sig .tc := ⟨.hbm, 173, rfl⟩
abbrev main_call0_c_0 : Ref sig .tc := ⟨.hbm, 174, rfl⟩
abbrev main_call0_v2 : Ref sig .tc := ⟨.hbm, 175, rfl⟩
abbrev main_call0_v3 : Ref sig .tc := ⟨.hbm, 176, rfl⟩
abbrev main_call0_v4 : Ref sig .tc := ⟨.hbm, 177, rfl⟩
abbrev main_call0_v5 : Ref sig .tc := ⟨.hbm, 178, rfl⟩
abbrev main_call0_c_1 : Ref sig .tc := ⟨.hbm, 179, rfl⟩
abbrev main_call0_c_2 : Ref sig .tc := ⟨.hbm, 180, rfl⟩
abbrev main_call0_v6 : Ref sig .tc := ⟨.hbm, 181, rfl⟩
abbrev main_call0_v7 : Ref sig .tc := ⟨.hbm, 182, rfl⟩
abbrev main_call0_v8 : Ref sig .tc := ⟨.hbm, 183, rfl⟩
abbrev main_call0_v9 : Ref sig .tc := ⟨.hbm, 184, rfl⟩
abbrev main_call0_v10 : Ref sig .tc := ⟨.hbm, 185, rfl⟩
abbrev main_call0_v11 : Ref sig .tc := ⟨.hbm, 186, rfl⟩
abbrev main_call0_c_3 : Ref sig .tc := ⟨.hbm, 187, rfl⟩
abbrev main_call0_v12 : Ref sig .tc := ⟨.hbm, 188, rfl⟩
abbrev main_call0_v13 : Ref sig .tc := ⟨.hbm, 189, rfl⟩
abbrev main_call0_cst : Ref sig .tc := ⟨.hbm, 190, rfl⟩
abbrev main_call0_v14 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_8 : Ref sig .tc := ⟨.hbm, 195, rfl⟩
abbrev main_v148 : Ref sig .tc := ⟨.hbm, 196, rfl⟩
abbrev main_cst_9 : Ref sig .tc := ⟨.hbm, 197, rfl⟩
abbrev main_v149 : Ref sig .tc := ⟨.hbm, 198, rfl⟩
abbrev main_cst_10 : Ref sig .tc := ⟨.hbm, 199, rfl⟩
abbrev main_v150 : Ref sig .tc := ⟨.hbm, 200, rfl⟩
abbrev main_cst_11 : Ref sig .tc := ⟨.hbm, 201, rfl⟩
abbrev main_v151 : Ref sig .tc := ⟨.hbm, 202, rfl⟩
abbrev main_cst_12 : Ref sig .tc := ⟨.hbm, 203, rfl⟩
abbrev main_v152 : Ref sig .tc := ⟨.hbm, 204, rfl⟩
abbrev main_cst_13 : Ref sig .tc := ⟨.hbm, 205, rfl⟩
abbrev main_v153 : Ref sig .tc := ⟨.hbm, 206, rfl⟩
abbrev main_cst_14 : Ref sig .tc := ⟨.hbm, 207, rfl⟩
abbrev main_v154 : Ref sig .tc := ⟨.hbm, 208, rfl⟩
abbrev main_cst_15 : Ref sig .tc := ⟨.hbm, 209, rfl⟩
abbrev main_v155 : Ref sig .tc := ⟨.hbm, 210, rfl⟩
abbrev main_cst_16 : Ref sig .tc := ⟨.hbm, 211, rfl⟩
abbrev main_v156 : Ref sig .tc := ⟨.hbm, 212, rfl⟩
abbrev main_cst_17 : Ref sig .tc := ⟨.hbm, 213, rfl⟩
abbrev main_v157 : Ref sig .tc := ⟨.hbm, 214, rfl⟩
abbrev main_cst_18 : Ref sig .tc := ⟨.hbm, 215, rfl⟩
abbrev main_v158 : Ref sig .tc := ⟨.hbm, 216, rfl⟩
abbrev main_cst_19 : Ref sig .tc := ⟨.hbm, 217, rfl⟩
abbrev main_v159 : Ref sig .tc := ⟨.hbm, 218, rfl⟩
abbrev main_cst_20 : Ref sig .tc := ⟨.hbm, 219, rfl⟩
abbrev main_v160 : Ref sig .tc := ⟨.hbm, 220, rfl⟩
abbrev main_cst_21 : Ref sig .tc := ⟨.hbm, 221, rfl⟩
abbrev main_v161 : Ref sig .tc := ⟨.hbm, 222, rfl⟩
abbrev main_cst_22 : Ref sig .tc := ⟨.hbm, 223, rfl⟩
abbrev main_v162 : Ref sig .tc := ⟨.hbm, 224, rfl⟩
abbrev main_cst_23 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_cst_24 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_call1_c : Ref sig .tc := ⟨.hbm, 247, rfl⟩
abbrev main_call1_v0 : Ref sig .tc := ⟨.hbm, 248, rfl⟩
abbrev main_call1_v1 : Ref sig .tc := ⟨.hbm, 249, rfl⟩
abbrev main_call1_c_0 : Ref sig .tc := ⟨.hbm, 250, rfl⟩
abbrev main_call1_v2 : Ref sig .tc := ⟨.hbm, 251, rfl⟩
abbrev main_call1_v3 : Ref sig .tc := ⟨.hbm, 252, rfl⟩
abbrev main_call1_v4 : Ref sig .tc := ⟨.hbm, 253, rfl⟩
abbrev main_call1_c_1 : Ref sig .tc := ⟨.hbm, 254, rfl⟩
abbrev main_call1_c_2 : Ref sig .tc := ⟨.hbm, 255, rfl⟩
abbrev main_call1_v5 : Ref sig .tc := ⟨.hbm, 256, rfl⟩
abbrev main_call1_v6 : Ref sig .tc := ⟨.hbm, 257, rfl⟩
abbrev main_call1_v7 : Ref sig .tc := ⟨.hbm, 258, rfl⟩
abbrev main_call1_v8 : Ref sig .tc := ⟨.hbm, 259, rfl⟩
abbrev main_call1_v9 : Ref sig .tc := ⟨.hbm, 260, rfl⟩
abbrev main_call1_v10 : Ref sig .tc := ⟨.hbm, 261, rfl⟩
abbrev main_call1_c_3 : Ref sig .tc := ⟨.hbm, 262, rfl⟩
abbrev main_call1_v11 : Ref sig .tc := ⟨.hbm, 263, rfl⟩
abbrev main_call1_v12 : Ref sig .tc := ⟨.hbm, 264, rfl⟩
abbrev main_call1_v13 : Ref sig .tc := ⟨.hbm, 265, rfl⟩
abbrev main_call1_c_4 : Ref sig .tc := ⟨.hbm, 266, rfl⟩
abbrev main_call1_v14 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_c : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_c_25 : Ref sig .tc := ⟨.hbm, 279, rfl⟩
abbrev main_v193 : Ref sig .tc := ⟨.hbm, 280, rfl⟩
abbrev main_v194 : Ref sig .tc := ⟨.hbm, 281, rfl⟩
abbrev main_c_26 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_call2_c : Ref sig .tc := ⟨.hbm, 287, rfl⟩
abbrev main_call2_v0 : Ref sig .tc := ⟨.hbm, 288, rfl⟩
abbrev main_call2_v1 : Ref sig .tc := ⟨.hbm, 289, rfl⟩
abbrev main_call2_c_0 : Ref sig .tc := ⟨.hbm, 290, rfl⟩
abbrev main_call2_v2 : Ref sig .tc := ⟨.hbm, 291, rfl⟩
abbrev main_call2_v3 : Ref sig .tc := ⟨.hbm, 292, rfl⟩
abbrev main_call2_v4 : Ref sig .tc := ⟨.hbm, 293, rfl⟩
abbrev main_call2_c_1 : Ref sig .tc := ⟨.hbm, 294, rfl⟩
abbrev main_call2_c_2 : Ref sig .tc := ⟨.hbm, 295, rfl⟩
abbrev main_call2_v5 : Ref sig .tc := ⟨.hbm, 296, rfl⟩
abbrev main_call2_v6 : Ref sig .tc := ⟨.hbm, 297, rfl⟩
abbrev main_call2_v7 : Ref sig .tc := ⟨.hbm, 298, rfl⟩
abbrev main_call2_v8 : Ref sig .tc := ⟨.hbm, 299, rfl⟩
abbrev main_call2_v9 : Ref sig .tc := ⟨.hbm, 300, rfl⟩
abbrev main_call2_v10 : Ref sig .tc := ⟨.hbm, 301, rfl⟩
abbrev main_call2_c_3 : Ref sig .tc := ⟨.hbm, 302, rfl⟩
abbrev main_call2_v11 : Ref sig .tc := ⟨.hbm, 303, rfl⟩
abbrev main_call2_v12 : Ref sig .tc := ⟨.hbm, 304, rfl⟩
abbrev main_call2_v13 : Ref sig .tc := ⟨.hbm, 305, rfl⟩
abbrev main_call2_c_4 : Ref sig .tc := ⟨.hbm, 306, rfl⟩
abbrev main_call2_v14 : Ref sig .tc := ⟨.hbm, 307, rfl⟩
abbrev main_v199 : Ref sig .tc := ⟨.hbm, 308, rfl⟩
abbrev main_v200 : Ref sig .tc := ⟨.hbm, 309, rfl⟩
abbrev main_c_27 : Ref sig .tc := ⟨.hbm, 310, rfl⟩
abbrev main_v201 : Ref sig .tc := ⟨.hbm, 311, rfl⟩
abbrev main_v202 : Ref sig .tc := ⟨.hbm, 312, rfl⟩
abbrev main_c_28 : Ref sig .tc := ⟨.hbm, 313, rfl⟩
abbrev main_c_29 : Ref sig .tc := ⟨.hbm, 314, rfl⟩
abbrev main_call3_v0 : Ref sig .tc := ⟨.hbm, 315, rfl⟩
abbrev main_call3_v1 : Ref sig .tc := ⟨.hbm, 316, rfl⟩
abbrev main_call3_v2 : Ref sig .tc := ⟨.hbm, 317, rfl⟩
abbrev main_call3_v3 : Ref sig .tc := ⟨.hbm, 318, rfl⟩
abbrev main_call3_v4 : Ref sig .tc := ⟨.hbm, 319, rfl⟩
abbrev main_v203 : Ref sig .tc := ⟨.hbm, 320, rfl⟩
abbrev main_v204 : Ref sig .tc := ⟨.hbm, 321, rfl⟩
abbrev main_c_30 : Ref sig .tc := ⟨.hbm, 322, rfl⟩
abbrev main_v205 : Ref sig .tc := ⟨.hbm, 323, rfl⟩
abbrev main_v206 : Ref sig .tc := ⟨.hbm, 324, rfl⟩
abbrev main_c_31 : Ref sig .tc := ⟨.hbm, 325, rfl⟩
abbrev main_v207 : Ref sig .tc := ⟨.hbm, 326, rfl⟩
abbrev main_v208 : Ref sig .tc := ⟨.hbm, 327, rfl⟩
abbrev main_v209 : Ref sig .tc := ⟨.hbm, 328, rfl⟩
abbrev main_call4_v0 : Ref sig .tc := ⟨.hbm, 329, rfl⟩
abbrev main_call4_v1 : Ref sig .tc := ⟨.hbm, 330, rfl⟩
abbrev main_call4_v2 : Ref sig .tc := ⟨.hbm, 331, rfl⟩
abbrev main_call4_v3 : Ref sig .tc := ⟨.hbm, 332, rfl⟩
abbrev main_call4_v4 : Ref sig .tc := ⟨.hbm, 333, rfl⟩
abbrev main_v210 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_v214 : Ref sig .tc := ⟨.hbm, 338, rfl⟩
abbrev main_v215 : Ref sig .tc := ⟨.hbm, 339, rfl⟩
abbrev main_v216 : Ref sig .tc := ⟨.hbm, 340, rfl⟩
abbrev main_cst_32 : Ref sig .tc := ⟨.hbm, 341, rfl⟩
abbrev main_v217 : Ref sig .tc := ⟨.hbm, 342, rfl⟩
abbrev main_v218 : Ref sig .tc := ⟨.hbm, 343, rfl⟩
abbrev main_cst_33 : Ref sig .tc := ⟨.hbm, 344, rfl⟩
abbrev main_v219 : Ref sig .tc := ⟨.hbm, 345, rfl⟩
abbrev main_v220 : Ref sig .tc := ⟨.hbm, 346, rfl⟩
abbrev main_c_34 : Ref sig .tc := ⟨.hbm, 347, rfl⟩
abbrev main_call5_cst : Ref sig .tc := ⟨.hbm, 348, rfl⟩
abbrev main_call5_v0 : Ref sig .tc := ⟨.hbm, 349, rfl⟩
abbrev main_call5_v1 : Ref sig .tc := ⟨.hbm, 350, rfl⟩
abbrev main_call5_cst_0 : Ref sig .tc := ⟨.hbm, 351, rfl⟩
abbrev main_call5_v2 : Ref sig .tc := ⟨.hbm, 352, rfl⟩
abbrev main_call5_v3 : Ref sig .tc := ⟨.hbm, 353, rfl⟩
abbrev main_call5_v4 : Ref sig .tc := ⟨.hbm, 354, rfl⟩
abbrev main_call5_v5 : Ref sig .tc := ⟨.hbm, 355, rfl⟩
abbrev main_call5_v6 : Ref sig .tc := ⟨.hbm, 356, rfl⟩
abbrev main_call5_v7 : Ref sig .tc := ⟨.hbm, 357, rfl⟩
abbrev main_call5_cst_1 : Ref sig .tc := ⟨.hbm, 358, rfl⟩
abbrev main_call5_v8 : Ref sig .tc := ⟨.hbm, 359, rfl⟩
abbrev main_call5_cst_2 : Ref sig .tc := ⟨.hbm, 360, rfl⟩
abbrev main_call5_v9 : Ref sig .tc := ⟨.hbm, 361, rfl⟩
abbrev main_call5_v10 : Ref sig .tc := ⟨.hbm, 362, rfl⟩
abbrev main_call5_v11 : Ref sig .tc := ⟨.hbm, 363, rfl⟩
abbrev main_call5_v12 : Ref sig .tc := ⟨.hbm, 364, rfl⟩
abbrev main_call5_cst_3 : Ref sig .tc := ⟨.hbm, 365, rfl⟩
abbrev main_call5_v13 : Ref sig .tc := ⟨.hbm, 366, rfl⟩
abbrev main_call5_cst_4 : Ref sig .tc := ⟨.hbm, 367, rfl⟩
abbrev main_call5_call0_v0 : Ref sig .tc := ⟨.hbm, 368, rfl⟩
abbrev main_call5_call0_v1 : Ref sig .tc := ⟨.hbm, 369, rfl⟩
abbrev main_v221 : Ref sig .tc := ⟨.hbm, 370, rfl⟩
abbrev main_v222 : Ref sig .tc := ⟨.hbm, 371, rfl⟩
abbrev main_v223 : Ref sig .tc := ⟨.hbm, 372, rfl⟩
abbrev main_cst_35 : Ref sig .tc := ⟨.hbm, 373, rfl⟩
abbrev main_v224 : Ref sig .tc := ⟨.hbm, 374, rfl⟩
abbrev main_v225 : Ref sig .tc := ⟨.hbm, 375, rfl⟩
abbrev main_v226 : Ref sig .tc := ⟨.hbm, 376, rfl⟩
abbrev main_v227 : Ref sig .tc := ⟨.hbm, 377, rfl⟩
abbrev main_v228 : Ref sig .tc := ⟨.hbm, 378, rfl⟩
abbrev main_v229 : Ref sig .tc := ⟨.hbm, 379, rfl⟩
abbrev main_v230 : Ref sig .tc := ⟨.hbm, 380, rfl⟩
abbrev main_v231 : Ref sig .tc := ⟨.hbm, 381, rfl⟩
abbrev main_v232 : Ref sig .tc := ⟨.hbm, 382, rfl⟩
abbrev main_v233 : Ref sig .tc := ⟨.hbm, 383, rfl⟩
abbrev main_v234 : Ref sig .tc := ⟨.hbm, 384, rfl⟩
abbrev main_v235 : Ref sig .tc := ⟨.hbm, 385, rfl⟩
abbrev main_v236 : Ref sig .tc := ⟨.hbm, 386, rfl⟩
abbrev main_v237 : Ref sig .tc := ⟨.hbm, 387, rfl⟩
abbrev main_v238 : Ref sig .tc := ⟨.hbm, 388, rfl⟩
abbrev main_v239 : Ref sig .tc := ⟨.hbm, 389, rfl⟩
abbrev main_v240 : Ref sig .tc := ⟨.hbm, 390, rfl⟩
abbrev main_v241 : Ref sig .tc := ⟨.hbm, 391, rfl⟩
abbrev main_v242 : Ref sig .tc := ⟨.hbm, 392, rfl⟩
abbrev main_cst_36 : Ref sig .tc := ⟨.hbm, 393, rfl⟩
abbrev main_v243 : Ref sig .tc := ⟨.hbm, 394, rfl⟩
abbrev main_cst_37 : Ref sig .tc := ⟨.hbm, 395, rfl⟩
abbrev main_v244 : Ref sig .tc := ⟨.hbm, 396, rfl⟩
abbrev main_v245 : Ref sig .tc := ⟨.hbm, 397, rfl⟩
abbrev main_v246 : Ref sig .tc := ⟨.hbm, 398, rfl⟩

abbrev nD : Nat := 1
abbrev τ : Topo := Topo.v7x

variable {F : FTy → Type} [FloatOps F]
-- ==== Proof.Consts.lean ====
/- The numbers that the programs' float words stand for. -/
module

public import Idealize.ShloMosaic.Lib.Pointwise

@[expose] public section

noncomputable section

namespace Cert.Edges

open Idealize.ShloMosaic

theorem word_inf : Ideal.ofBits .f32 0x7F800000#32 = (⊤ : EReal) := by simp [Ideal.ofBits, Ideal.ieee]

theorem word_neg_inf : Ideal.ofBits .f32 0xFF800000#32 = (⊥ : EReal) := by simp [Ideal.ofBits, Ideal.ieee]

theorem word_billion : Ideal.ofBits .f32 0x4E6E6B28#32 = ((1000000000 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_32 : Ideal.ofBits .f32 0x42000000#32 = ((32 : ℝ) : EReal) := by
  simp [Ideal.ofBits, Ideal.ieee, -EReal.coe_mul]; norm_num

theorem word_64 : Ideal.ofBits .f32 0x42800000#32 = ((64 : ℝ) : EReal) := by
  simp [Ideal.ofBits, Ideal.ieee, -EReal.coe_mul]; norm_num

theorem word_sigma : Ideal.ofBits .f32 0x3FA00000#32 = ((5 / 4 : ℝ) : EReal) := by
  simp [Ideal.ofBits, Ideal.ieee, -EReal.coe_mul]; norm_num

/-- The words of the numbers 0 to 29. -/
def slotWord : ℕ → BitVec 32
  | 0 => 0x00000000#32 | 1 => 0x3F800000#32 | 2 => 0x40000000#32 | 3 => 0x40400000#32 | 4 => 0x40800000#32
  | 5 => 0x40A00000#32 | 6 => 0x40C00000#32 | 7 => 0x40E00000#32 | 8 => 0x41000000#32 | 9 => 0x41100000#32
  | 10 => 0x41200000#32 | 11 => 0x41300000#32 | 12 => 0x41400000#32 | 13 => 0x41500000#32 | 14 => 0x41600000#32
  | 15 => 0x41700000#32 | 16 => 0x41800000#32 | 17 => 0x41880000#32 | 18 => 0x41900000#32 | 19 => 0x41980000#32
  | 20 => 0x41A00000#32 | 21 => 0x41A80000#32 | 22 => 0x41B00000#32 | 23 => 0x41B80000#32 | 24 => 0x41C00000#32
  | 25 => 0x41C80000#32 | 26 => 0x41D00000#32 | 27 => 0x41D80000#32 | 28 => 0x41E00000#32 | _ => 0x41E80000#32

theorem slot_words (k : Fin 30) : Ideal.ofBits .f32 (slotWord k) = ((k.val : ℝ) : EReal) := by
  fin_cases k <;> simp [Ideal.ofBits, Ideal.ieee, slotWord, -EReal.coe_mul] <;> norm_num

/-- The words of the sixteen centres, from 2 to 22. -/
def centreWord : Fin 16 → BitVec 32 := ![0x40000000#32, 0x40555555#32, 0x40955555#32, 0x40C00000#32, 0x40EAAAAB#32, 0x410AAAAB#32, 0x41200000#32, 0x41355555#32,
  0x414AAAAB#32, 0x41600000#32, 0x41755555#32, 0x41855555#32, 0x41900000#32, 0x419AAAAB#32, 0x41A55555#32, 0x41B00000#32]

/-- The words of their negatives. -/
def negCentreWord : Fin 16 → BitVec 32 := ![0xC0000000#32, 0xC0555555#32, 0xC0955555#32, 0xC0C00000#32, 0xC0EAAAAB#32, 0xC10AAAAB#32, 0xC1200000#32, 0xC1355555#32,
  0xC14AAAAB#32, 0xC1600000#32, 0xC1755555#32, 0xC1855555#32, 0xC1900000#32, 0xC19AAAAB#32, 0xC1A55555#32, 0xC1B00000#32]

theorem neg_centre (k : Fin 16) : Ideal.ofBits .f32 (negCentreWord k) = -Ideal.ofBits .f32 (centreWord k) := by
  fin_cases k <;> simp [Ideal.ofBits, Ideal.ieee, centreWord, negCentreWord, -EReal.coe_mul, ← EReal.coe_neg]

/-- A number below 2³¹ as a word and back. -/
theorem toInt_ofNat {k : ℕ} (h : k < 2147483648) : (BitVec.ofNat 32 k).toInt = (k : ℤ) := by
  rw [BitVec.toInt_ofNat', Int.bmod_eq_of_le] <;> omega

theorem num_of_word {k : ℕ} (h : k < 2147483648) :
    FloatOps.sitofp (F := Ideal) FTy.f32 (BitVec.ofNat 32 k) = ((k : ℝ) : EReal) := by
  show (((BitVec.ofNat 32 k).toInt : ℝ) : EReal) = _
  rw [toInt_ofNat h, Int.cast_natCast]

theorem nat_cast_inj {a b : ℕ} : (((a : ℝ) : EReal) = ((b : ℝ) : EReal)) ↔ a = b := by
  rw [EReal.coe_eq_coe_iff, Nat.cast_inj]

end Cert.Edges
-- ==== Proof.Nearest.lean ====
/- Picking the least entry of a row over and over, each pick put at infinity afterwards, and that the picks are the
   row's stable sort, least first. -/
module

public import Idealize.ShloMosaic.Lib.SortPrefix
public import Mathlib.Data.EReal.Operations
public import Mathlib.Data.Finset.Lattice.Fold
public import Mathlib.Order.Interval.Finset.Fin

@[expose] public section

noncomputable section

namespace Cert.Edges

open Idealize.ShloMosaic

variable {n : ℕ} [NeZero n]

/-- Some position holds the least entry, and is the first that does. -/
theorem exists_least (f : Fin n → EReal) : ∃ a, (∀ l, f a ≤ f l) ∧ ∀ l, f l = f a → a ≤ l := by
  obtain ⟨b, -, hb⟩ := Finset.exists_min_image Finset.univ f ⟨0, Finset.mem_univ _⟩
  have hne : (Finset.univ.filter fun l => f l = f b).Nonempty := ⟨b, by simp⟩
  refine ⟨(Finset.univ.filter fun l => f l = f b).min' hne, ?_, ?_⟩
  · have := Finset.min'_mem _ hne
    simp only [Finset.mem_filter, Finset.mem_univ, true_and] at this
    intro l; rw [this]; exact hb l (Finset.mem_univ _)
  · have := Finset.min'_mem _ hne
    simp only [Finset.mem_filter, Finset.mem_univ, true_and] at this
    intro l hl
    exact Finset.min'_le _ _ (by simp [hl, this])

/-- The first position of the least entry. -/
def least (f : Fin n → EReal) : Fin n := (exists_least f).choose

theorem least_le (f : Fin n → EReal) (l : Fin n) : f (least f) ≤ f l := (exists_least f).choose_spec.1 l

theorem least_first (f : Fin n → EReal) (l : Fin n) (h : f l = f (least f)) : least f ≤ l :=
  (exists_least f).choose_spec.2 l h

theorem inf_eq_least (f : Fin n → EReal) : Finset.univ.inf f = f (least f) :=
  le_antisymm (Finset.inf_le (Finset.mem_univ _)) (Finset.le_inf fun l _ => least_le f l)

/-- The least of the positions that hold the least entry, as a number, when a number `B` beyond them all stands at the
    other positions. -/
theorem inf_position (f : Fin n → EReal) (B : EReal) (hB : ∀ l : Fin n, ((l.val : ℝ) : EReal) ≤ B) :
    (Finset.univ.inf fun l : Fin n => if f l = Finset.univ.inf f then ((l.val : ℝ) : EReal) else B)
      = ((least f).val : ℝ) := by
  have e := inf_eq_least f
  rw [e]
  have h0 : (Finset.univ.inf fun l : Fin n => if f l = f (least f) then ((l.val : ℝ) : EReal) else B)
      ≤ if f (least f) = f (least f) then (((least f).val : ℝ) : EReal) else B :=
    Finset.inf_le (f := fun l : Fin n => if f l = f (least f) then ((l.val : ℝ) : EReal) else B) (Finset.mem_univ _)
  rw [if_pos rfl] at h0
  refine le_antisymm h0 (Finset.le_inf fun l _ => ?_)
  split
  · next h =>
    have := least_first f l h
    exact_mod_cast this
  · exact hB _

/-- The row with its least entry put at infinity. -/
def without (f : Fin n → EReal) : Fin n → EReal := fun l => if l = least f then ⊤ else f l

/-- The row after `k` picks. -/
def after (f : Fin n → EReal) (k : ℕ) : Fin n → EReal := without^[k] f

theorem after_succ (f : Fin n → EReal) (k : ℕ) : after f (k + 1) = without (after f k) :=
  Function.iterate_succ_apply' _ _ _

/-- The position of pick `k`. -/
def pick (f : Fin n → EReal) (k : ℕ) : Fin n := least (after f k)

theorem after_apply (f : Fin n → EReal) (k : ℕ) (l : Fin n) :
    after f k l = if ∃ j < k, pick f j = l then ⊤ else f l := by
  induction k with
  | zero => simp [after]
  | succ k ih =>
    rw [after_succ]
    unfold without
    by_cases h : l = least (after f k)
    · rw [if_pos h, if_pos ⟨k, Nat.lt_succ_self k, h.symm⟩]
    · rw [if_neg h, ih]
      have : (∃ j < k, pick f j = l) ↔ ∃ j < k + 1, pick f j = l := by
        constructor
        · rintro ⟨j, hj, e⟩; exact ⟨j, by omega, e⟩
        · rintro ⟨j, hj, e⟩
          rcases Nat.lt_succ_iff_lt_or_eq.mp hj with h' | rfl
          · exact ⟨j, h', e⟩
          · exact absurd e.symm h
      simp only [this]

section finite

variable (f : Fin n → EReal) (hf : ∀ l, f l < ⊤)
include hf

/-- While fewer than all positions are picked, a pick is a new position. -/
theorem pick_new (k : ℕ) (hk : k < n) : ¬ ∃ j < k, pick f j = pick f k := by
  intro h
  have hex : ∃ l : Fin n, ¬ ∃ j < k, pick f j = l := by
    by_contra hall
    push Not at hall
    have hs : (Finset.univ : Finset (Fin n)) ⊆ (Finset.range k).image (pick f) := fun l _ => by
      obtain ⟨j, hj, e⟩ := hall l
      exact Finset.mem_image.mpr ⟨j, Finset.mem_range.mpr hj, e⟩
    have := (Finset.card_le_card hs).trans Finset.card_image_le
    simp at this
    omega
  obtain ⟨l, hl⟩ := hex
  have h1 : after f k (pick f k) ≤ after f k l := least_le _ l
  rw [after_apply, after_apply, if_pos h, if_neg hl] at h1
  exact absurd (hf l) (not_lt.mpr h1)

theorem after_pick (k : ℕ) (hk : k < n) : after f k (pick f k) = f (pick f k) := by
  rw [after_apply, if_neg (pick_new f hf k hk)]

/-- A position not picked before pick `k` comes no earlier than pick `k`: by its entry, then by its place. -/
theorem pick_before (k : ℕ) (hk : k < n) (l : Fin n) (hl : ¬ ∃ j < k, pick f j = l) :
    f (pick f k) ≤ f l ∧ (f l = f (pick f k) → pick f k ≤ l) := by
  have h1 : after f k (pick f k) ≤ after f k l := least_le _ l
  have h2 := least_first (after f k) l
  change after f k l = after f k (pick f k) → pick f k ≤ l at h2
  rw [after_pick f hf k hk, after_apply, if_neg hl] at h1 h2
  exact ⟨h1, h2⟩

end finite

/-- A stable sort of the positions in their own order breaks ties by the position. -/
theorem sortedFrom_tie (f : Fin n → EReal) :
    sortedFrom (fun a b : Fin n => decide (f a < f b))
      = sortedFrom fun a b : Fin n => decide (f a < f b) || (decide (f a = f b) && decide (a < b)) := by
  have key : ∀ l : List (Fin n), l.Pairwise (· < ·) →
      stableSort (fun a b : Fin n => decide (f a < f b)) l
        = stableSort (fun a b : Fin n => decide (f a < f b) || (decide (f a = f b) && decide (a < b))) l := by
    intro l
    induction l with
    | nil => intro _; rfl
    | cons a l ih =>
      intro h
      rw [List.pairwise_cons] at h
      unfold stableSort
      rw [← ih h.2]
      refine insertBefore_congr _ _ a _ fun b hb => ?_
      have hab : a < b := h.1 b ((perm_stableSort _ l).mem_iff.mp hb)
      simp [hab.le.not_gt]
  have hs : sortPositions n (fun a b : Fin n => decide (f a < f b))
      = sortPositions n fun a b : Fin n => decide (f a < f b) || (decide (f a = f b) && decide (a < b)) :=
    key _ (List.pairwise_lt_finRange n)
  funext k
  unfold sortedFrom
  rw [List.get_of_eq hs]
  rfl

/-- Place `k` of the stable sort, least first, is pick `k`. -/
theorem sortedFrom_pick (f : Fin n → EReal) (hf : ∀ l, f l < ⊤) (K : ℕ) (hK : K ≤ n) (k : Fin K) :
    sortedFrom (fun a b : Fin n => decide (f a < f b)) (k.castLE hK) = pick f k := by
  rw [sortedFrom_tie]
  have hB : StrictTotalBefore fun a b : Fin n => decide (f a < f b) || (decide (f a = f b) && decide (a < b)) :=
    StrictTotalBefore.of_key_then_position (fun x y : EReal => decide (x < y)) f (by simp)
      (fun a b c h h' => by simp only [decide_eq_true_eq] at *; exact lt_trans h h')
      (fun a b => by simp only [decide_eq_true_eq]; exact lt_trichotomy a b)
  have hlt : ∀ j : Fin K, j.val < n := fun j => lt_of_lt_of_le j.isLt hK
  have none : ∀ (i : ℕ) (_ : i < n) (p : Fin n), (¬ ∃ j < i, pick f j = p) →
      (decide (f p < f (pick f i)) || (decide (f p = f (pick f i)) && decide (p < pick f i))) = false := by
    intro i hi p hp
    obtain ⟨h1, h2⟩ := pick_before f hf i hi p hp
    simp only [Bool.or_eq_false_iff, Bool.and_eq_false_iff, decide_eq_false_iff_not]
    refine ⟨not_lt.mpr h1, ?_⟩
    by_cases h : f p = f (pick f i)
    · exact Or.inr (not_lt.mpr (h2 h))
    · exact Or.inl h
  have new : ∀ i j : Fin K, i < j → pick f i ≠ pick f j := fun i j hij e =>
    pick_new f hf j (hlt j) ⟨i, hij, e⟩
  refine hB.sortedFrom_eq_of_prefix hK (fun k : Fin K => pick f k) ?_ ?_ ?_ k
  · intro i j e
    rcases lt_trichotomy i j with h | h | h
    · exact absurd e (new i j h)
    · exact h
    · exact absurd e.symm (new j i h)
  · intro i j hij
    refine none i (hlt i) _ ?_
    rintro ⟨q, hq, e⟩
    exact new ⟨q, hq.trans i.isLt⟩ j (lt_trans (show (⟨q, _⟩ : Fin K) < i from hq) hij) e
  · intro i p hp
    refine none i (hlt i) p ?_
    rintro ⟨q, hq, e⟩
    exact hp ⟨q, hq.trans i.isLt⟩ e

end Cert.Edges

end
-- ==== Proof.Spec.lean ====
/- The edge features as functions of the arguments' entries: what both programs compute. One chain of 512 residues at a
   time; `P i` is residue `i`'s fifteen coordinates (five atoms by three), `M i` its mask, `N i` its number. -/
module

public import proofs.«01_k».proof.Proof.Consts
public import proofs.«01_k».proof.Proof.Nearest

@[expose] public section

noncomputable section

namespace Cert.Edges

open Idealize.ShloMosaic

/-- The small number under each root. -/
def eps : EReal := Ideal.ofBits .f32 0x358637BD#32

section
variable (p : Fin 15 → EReal)

/-- From N to Cα. -/
def armB (d : Fin 3) : EReal := p ⟨3 + d, by omega⟩ - p ⟨d, by omega⟩

/-- From Cα to C. -/
def armC (d : Fin 3) : EReal := p ⟨6 + d, by omega⟩ - p ⟨3 + d, by omega⟩

/-- The two arms' cross product. -/
def cross : Fin 3 → EReal :=
  ![armB p 1 * armC p 2 - armB p 2 * armC p 1, armB p 2 * armC p 0 - armB p 0 * armC p 2,
    armB p 0 * armC p 1 - armB p 1 * armC p 0]

/-- The virtual Cβ. -/
def virt (d : Fin 3) : EReal :=
  Ideal.ofBits .f32 0xBF152E13#32 * cross p d + Ideal.ofBits .f32 0x3F116A4D#32 * armB p d
    - Ideal.ofBits .f32 0x3F0A69A8#32 * armC p d + p ⟨3 + d, by omega⟩

/-- The five sites' coordinates: N, Cα, C, O and the virtual Cβ, three each. -/
def site (s : Fin 15) : EReal :=
  if s.val < 9 then p s else if h : s.val < 12 then p ⟨s + 3, by omega⟩ else virt p ⟨s - 12, by omega⟩
end

/-- The site of a pair's first residue. -/
def siteA : Fin 24 → Fin 5 := ![0, 2, 3, 4, 1, 1, 1, 1, 0, 0, 0, 4, 4, 3, 0, 2, 3, 4, 2, 3, 4, 2, 3, 2]

/-- The site of a pair's second residue. -/
def siteB : Fin 24 → Fin 5 := ![0, 2, 3, 4, 0, 2, 3, 4, 2, 3, 4, 2, 3, 2, 1, 1, 1, 1, 0, 0, 0, 4, 4, 3]

/-- Coordinate `c` of site `a`, among the fifteen. -/
def coord (a : Fin 5) (c : Fin 3) : Fin 15 := ⟨a * 3 + c, by omega⟩

/-- The distance of the `q`-th pair of sites. -/
def apart (p p' : Fin 15 → EReal) (q : Fin 24) : EReal :=
  Ideal.sqrt ((∑ c : Fin 3, (site p (coord (siteA q) c) - site p' (coord (siteB q) c))
    * (site p (coord (siteA q) c) - site p' (coord (siteB q) c))) + eps)

/-- The distance between two residues' Cα. -/
def gap (p p' : Fin 15 → EReal) : EReal :=
  Ideal.sqrt ((∑ c : Fin 3, (p ⟨3 + c, by omega⟩ - p' ⟨3 + c, by omega⟩) * (p ⟨3 + c, by omega⟩ - p' ⟨3 + c, by omega⟩)) + eps)

section
variable (P : Fin 512 → Fin 15 → EReal) (M : Fin 512 → EReal) (N : Fin 512 → ℤ)

/-- The masked distance, to which a masked pair adds the row's largest. -/
def away (i j : Fin 512) : EReal :=
  M i * M j * gap (P i) (P j) + (1 - M i * M j) * Finset.univ.sup fun l => M i * M l * gap (P i) (P l)

/-- The `k`-th nearest residue. -/
def nbr (i : Fin 512) (k : ℕ) : Fin 512 := pick (away P M i) k

/-- An edge's twenty-five distances. -/
def feat (i : Fin 512) (k : ℕ) (g : Fin 25) : EReal :=
  if h : g.val < 1 then away P M i (nbr P M i k) else apart (P i) (P (nbr P M i k)) ⟨g - 1, by omega⟩

/-- An edge's four hundred radial features. -/
def bump (i : Fin 512) (k : ℕ) (j : Fin 400) : EReal :=
  Ideal.exp (-((feat P M i k ⟨j / 16, by omega⟩ - Ideal.ofBits .f32 (centreWord ⟨j % 16, by omega⟩)) * ((4 / 5 : ℝ) : EReal)
    * ((feat P M i k ⟨j / 16, by omega⟩ - Ideal.ofBits .f32 (centreWord ⟨j % 16, by omega⟩)) * ((4 / 5 : ℝ) : EReal))))

/-- The difference of two residues' numbers, from -32 to 32, as a row of the table of 66. -/
def turn (a b : ℤ) : Fin 66 := ⟨(max 0 (min 64 (a - b + 32))).toNat, by omega⟩

variable (pw : Fin 66 → Fin 16 → EReal) (pb : Fin 16 → EReal) (W : Fin 416 → Fin 128 → EReal)

/-- An edge's features before they are normalized. -/
def mixed (i : Fin 512) (k : ℕ) (o : Fin 128) : EReal :=
  (∑ j : Fin 400, bump P M i k j * W ⟨16 + j, by omega⟩ o)
    + (∑ c : Fin 16, pw (turn (N i) (N (nbr P M i k))) c * W ⟨c, by omega⟩ o)
    + ∑ c : Fin 16, pb c * W ⟨c, by omega⟩ o
end

/-- The mean of 128 entries. -/
def mean (y : Fin 128 → EReal) : EReal := Ideal.div (∑ o, y o) (Ideal.ofBits .f32 0x43000000#32)

/-- The 128 entries normalized, scaled and shifted. -/
def normed (y g b : Fin 128 → EReal) (o : Fin 128) : EReal :=
  Ideal.div (y o - mean y)
    (Ideal.sqrt (mean (fun o => (y o - mean y) * (y o - mean y)) + Ideal.ofBits .f32 0x3727C5AC#32)) * g o + b o

/-- The distance from a virtual Cβ to the `a`-th of 78 atoms of its residue and 16 of the chain's ligand. -/
def reach (p : Fin 15 → EReal) (Y : Fin 78 → Fin 3 → EReal) (Z : Fin 16 → Fin 3 → EReal) (a : Fin 94) : EReal :=
  Ideal.sqrt ((∑ c : Fin 3,
    (virt p c - if h : a.val < 78 then Y ⟨a, h⟩ c else Z ⟨a - 78, by omega⟩ c)
      * (virt p c - if h : a.val < 78 then Y ⟨a, h⟩ c else Z ⟨a - 78, by omega⟩ c)) + eps)

end Cert.Edges
-- ==== Proof.Literals.lean ====
/- The kernel's four literal tables, entry by entry. -/
module

public import Idealize.ShloMosaic.Lib.Pointwise
public import proofs.«01_k».proof.Proof.Spec
public import proofs.«01_k».proof.Proof.Gen.KernelIdeal.Frame

@[expose] public section

noncomputable section

namespace Cert.Edges

open Idealize.ShloMosaic Idealize.ShloMosaic.TcCoe Idealize.SL.Sem
open Cert.KernelIdeal Cert.KernelIdeal.Gen

theorem sa_word : ∀ (s : Fin 16) (c : Fin 72), lit0t (s.val * 72 + c.val)
    = if s.val = (coord (siteA ⟨c / 3, by omega⟩) ⟨c % 3, by omega⟩).val then 0x3F800000#32 else 0x00000000#32 := by
  decide +kernel

theorem sb_word : ∀ (s : Fin 16) (c : Fin 72), lit1t (s.val * 72 + c.val)
    = if s.val = (coord (siteB ⟨c / 3, by omega⟩) ⟨c % 3, by omega⟩).val then 0x3F800000#32 else 0x00000000#32 := by
  decide +kernel

theorem ss_word : ∀ (c : Fin 72) (q : Fin 24), lit2t (c.val * 24 + q.val)
    = if c.val / 3 = q.val then 0x3F800000#32 else 0x00000000#32 := by
  decide +kernel

theorem smu_word : ∀ (g : Fin 26) (j : Fin 400), lit3t (g.val * 400 + j.val)
    = if g.val = 25 then negCentreWord ⟨j % 16, by omega⟩ else if g.val = j.val / 16 then 0x3F800000#32 else 0x00000000#32 := by
  decide +kernel

end Cert.Edges
-- ==== Proof.Entry.lean ====
/- The launch's arrays read at an index, as the arguments' entries. -/
module

public import Idealize.ShloMosaic.Lib.Pointwise
public import Idealize.ShloMosaic.Lib.Pipeline.ValueKit
public import Idealize.ShloMosaic.Lib.Claim
public import proofs.«01_k».proof.Proof.Literals

@[expose] public section

set_option maxRecDepth 16384

noncomputable section

namespace Cert.Edges

open Idealize.ShloMosaic Idealize.ShloMosaic.TcCoe Idealize.SL.Sem
open Cert.KernelIdeal Cert.KernelIdeal.Gen

/-- A chain's coordinates, fifteen a residue. -/
def places (X : Vec Ideal ⟨4, ![2, 512, 5, 3]⟩ .f32) (b : Fin 2) (i : Fin 512) (s : Fin 15) : EReal :=
  X (ix4 b i ⟨s / 3, by omega⟩ ⟨s % 3, by omega⟩)

/-- A residue's 78 side-chain atoms, stored one after the other. -/
def sides (Y : Vec Ideal ⟨4, ![2, 512, 3, 78]⟩ .f32) (b : Fin 2) (i : Fin 512) (a : Fin 78) (d : Fin 3) : EReal :=
  Y (ix4 b i ⟨(3 * a + d) / 78, by omega⟩ ⟨(3 * a + d) % 78, by omega⟩)

/-- The chain that a grid point works on. -/
def batch (t : Fin cfg0.N) : Fin 2 := ⟨t.val / 8, by have := t.isLt; have : cfg0.N = 16 := N_0; omega⟩

/-- The residue of a grid point's row. -/
def place (t : Fin cfg0.N) (r : Fin 64) : Fin 512 := ⟨64 * (t.val % 8) + r, by omega⟩

variable (m : (ℓ : Loc nD τ sig) → Buf (Elt Ideal) ℓ) (c : Dev nD)

/-- The arguments' arrays: the ligand's atoms, the residues' atoms, their side chains' atoms, the mask, the residues' numbers, the
    table of 66 rows, its bias, the weights, the scale and the shift. -/
abbrev argZ : Vec Ideal ⟨3, ![2, 16, 3]⟩ .f32 := m ((c : Thread nD τ).loc main_arg0)
abbrev argX : Vec Ideal ⟨4, ![2, 512, 5, 3]⟩ .f32 := m ((c : Thread nD τ).loc main_arg3)
abbrev argY : Vec Ideal ⟨4, ![2, 512, 3, 78]⟩ .f32 := m ((c : Thread nD τ).loc main_arg4)
abbrev argM : Vec Ideal ⟨2, ![2, 512]⟩ .f32 := m ((c : Thread nD τ).loc main_arg6)
abbrev argN : Vec Ideal ⟨2, ![2, 512]⟩ .i32 := m ((c : Thread nD τ).loc main_arg8)
abbrev argT : Vec Ideal ⟨2, ![66, 16]⟩ .f32 := m ((c : Thread nD τ).loc main_arg10)
abbrev argU : Vec Ideal ⟨1, ![16]⟩ .f32 := m ((c : Thread nD τ).loc main_arg11)
abbrev argW : Vec Ideal ⟨2, ![416, 128]⟩ .f32 := m ((c : Thread nD τ).loc main_arg12)
abbrev argG : Vec Ideal ⟨1, ![128]⟩ .f32 := m ((c : Thread nD τ).loc main_arg13)
abbrev argB : Vec Ideal ⟨1, ![128]⟩ .f32 := m ((c : Thread nD τ).loc main_arg14)

theorem launched (b : Ref sig .tc) : V m c b = StableHlo.after hostOps0 (fun b => m (c, b)) (Proc.tc.devRef b) := by
  show StableHlo.after [hostOps0].flatten _ _ = _
  rw [List.flatten_singleton]

theorem entry0 (b : Fin 2) (i : Fin 512) (s : Fin 15) :
    (V m c main_v0 : Vec Ideal S2x512x15 .f32) (ix3 b i s) = places (argX m c) b i s := by
  rw [launched]; entry_read; pointwise; rfl

theorem entry1 (b : Fin 2) (i : Fin 512) (s : Fin 15) :
    (V m c main_v1 : Vec Ideal S2x15x512 .f32) (ix3 b s i) = places (argX m c) b i s := by
  rw [launched]; entry_read; pointwise; rfl

theorem entry2 (b : Fin 2) (i : Fin 512) :
    (V m c main_v2 : Vec Ideal S2x512x1 .f32) (ix3 b i 0) = argM m c (ix2 b i) := by
  rw [launched]; entry_read; pointwise

theorem entry3 (b : Fin 2) (i : Fin 512) :
    (V m c main_v3 : Vec Ideal S2x1x512 .f32) (ix3 b 0 i) = argM m c (ix2 b i) := by
  rw [launched]; entry_read; pointwise

theorem entry5 (b : Fin 2) (i : Fin 512) :
    (V m c main_v5 : Vec Ideal S2x512x1 .f32) (ix3 b i 0)
      = (((argN m c (ix2 b i)).toInt : ℝ) : EReal) := by
  rw [launched]; entry_read; pointwise; rfl

theorem entry7 (b : Fin 2) (i : Fin 512) (a : Fin 78) :
    (V m c main_v7 : Vec Ideal S2x512x78 .f32) (ix3 b i a) = sides (argY m c) b i a 0 := by
  rw [launched]; entry_read; pointwise; rfl

theorem entry8 (b : Fin 2) (i : Fin 512) (a : Fin 78) :
    (V m c main_v8 : Vec Ideal S2x512x78 .f32) (ix3 b i a) = sides (argY m c) b i a 1 := by
  rw [launched]; entry_read; pointwise; unfold sides; simp only [Nat.add_comm (3 * a.val)]; rfl

theorem entry9 (b : Fin 2) (i : Fin 512) (a : Fin 78) :
    (V m c main_v9 : Vec Ideal S2x512x78 .f32) (ix3 b i a) = sides (argY m c) b i a 2 := by
  rw [launched]; entry_read; pointwise; unfold sides; simp only [Nat.add_comm (3 * a.val)]; rfl

theorem entry10 (b : Fin 2) (d : Fin 3) (a : Fin 16) :
    (V m c main_v10 : Vec Ideal S2x3x16 .f32) (ix3 b d a) = argZ m c (ix3 b a d) := by
  rw [launched]; entry_read; pointwise

/-- The table of 66 rows, each mixed by the first sixteen rows of the weights. -/
theorem entry12 (u : Fin 66) (o : Fin 128) :
    (V m c main_v12 : Vec Ideal S66x128 .f32) (ix2 u o)
      = (∑ k : Fin 16, argT m c (ix2 u k) * argW m c (ix2 ⟨k, by omega⟩ o) : EReal) := by
  rw [launched]; entry_read; pointwise

theorem entry15 (o : Fin 128) :
    (V m c main_v15 : Vec Ideal S1x128 .f32) (ix2 0 o)
      = (∑ k : Fin 16, argU m c (ix1 k) * argW m c (ix2 ⟨k, by omega⟩ o) : EReal) := by
  rw [launched]; entry_read; pointwise

theorem entry16 (j : Fin 400) (o : Fin 128) :
    (V m c main_v16 : Vec Ideal S400x128 .f32) (ix2 j o)
      = argW m c (ix2 ⟨16 + j, by omega⟩ o) := by
  rw [launched]; entry_read; pointwise

theorem entry17 (o : Fin 128) :
    (V m c main_v17 : Vec Ideal S1x128 .f32) (ix2 0 o) = argG m c (ix1 o) := by
  rw [launched]; entry_read; pointwise

theorem entry18 (o : Fin 128) :
    (V m c main_v18 : Vec Ideal S1x128 .f32) (ix2 0 o) = argB m c (ix1 o) := by
  rw [launched]; entry_read; pointwise

theorem word_of_bit (P : Prop) [Decidable P] :
    Ideal.ofBits .f32 (if P then 0x3F800000#32 else 0x00000000#32) = if P then 1 else 0 := by
  split
  · exact Ideal.ofBits_one_f32
  · exact Ideal.ofBits_zero .f32

theorem entry_sa (s : Fin 16) (k : Fin 72) : (V m c main_cst : Vec Ideal S16x72 .f32) (ix2 s k)
    = (if s.val = (coord (siteA ⟨k / 3, by omega⟩) ⟨k % 3, by omega⟩).val then 1 else 0 : EReal) := by
  rw [launched]; entry_read
  show Ideal.ofBits .f32 (lit0t (S16x72.rowMajor (ix2 s k)).val) = _
  rw [show (S16x72.rowMajor (ix2 s k)).val = s.val * 72 + k.val from Shape.rowMajor_val_two _, sa_word, word_of_bit]

theorem entry_sb (s : Fin 16) (k : Fin 72) : (V m c main_cst_0 : Vec Ideal S16x72 .f32) (ix2 s k)
    = (if s.val = (coord (siteB ⟨k / 3, by omega⟩) ⟨k % 3, by omega⟩).val then 1 else 0 : EReal) := by
  rw [launched]; entry_read
  show Ideal.ofBits .f32 (lit1t (S16x72.rowMajor (ix2 s k)).val) = _
  rw [show (S16x72.rowMajor (ix2 s k)).val = s.val * 72 + k.val from Shape.rowMajor_val_two _, sb_word, word_of_bit]

theorem entry_ss (k : Fin 72) (q : Fin 24) : (V m c main_cst_1 : Vec Ideal S72x24 .f32) (ix2 k q)
    = (if k.val / 3 = q.val then 1 else 0 : EReal) := by
  rw [launched]; entry_read
  show Ideal.ofBits .f32 (lit2t (S72x24.rowMajor (ix2 k q)).val) = _
  rw [show (S72x24.rowMajor (ix2 k q)).val = k.val * 24 + q.val from Shape.rowMajor_val_two _, ss_word, word_of_bit]

theorem entry_smu (g : Fin 26) (j : Fin 400) : (V m c main_cst_2 : Vec Ideal S26x400 .f32) (ix2 g j)
    = (if g.val = 25 then -Ideal.ofBits .f32 (centreWord ⟨j % 16, by omega⟩) else if g.val = j.val / 16 then 1 else 0 : EReal) := by
  rw [launched]; entry_read
  show Ideal.ofBits .f32 (lit3t (S26x400.rowMajor (ix2 g j)).val) = _
  rw [show (S26x400.rowMajor (ix2 g j)).val = g.val * 400 + j.val from Shape.rowMajor_val_two _, smu_word]
  split
  · rw [neg_centre]
  · exact word_of_bit _

end Cert.Edges
-- ==== Proof.Blocks.lean ====
/- The blocks that a grid point works on, read at an index, as the arguments' entries. -/
module

public import proofs.«01_k».proof.Proof.Entry

@[expose] public section

set_option maxRecDepth 16384

noncomputable section

namespace Cert.Edges

open Idealize.ShloMosaic Idealize.ShloMosaic.TcCoe Idealize.SL.Sem
open Cert.KernelIdeal Cert.KernelIdeal.Gen

variable (m : (ℓ : Loc nD τ sig) → Buf (Elt Ideal) ℓ) (c : Dev nD)

/-- A window of row blocks reads block (chain, row block). -/
theorem byRow : ∀ t : Fin grid0.N,
    (win0_0.index t 0 = t.val / 8 ∧ win0_0.index t 1 = t.val % 8 ∧ win0_0.index t 2 = 0)
    ∧ (win0_2.index t 0 = t.val / 8 ∧ win0_2.index t 1 = t.val % 8 ∧ win0_2.index t 2 = 0)
    ∧ (win0_4.index t 0 = t.val / 8 ∧ win0_4.index t 1 = t.val % 8 ∧ win0_4.index t 2 = 0)
    ∧ (win0_6.index t 0 = t.val / 8 ∧ win0_6.index t 1 = t.val % 8 ∧ win0_6.index t 2 = 0)
    ∧ (win0_7.index t 0 = t.val / 8 ∧ win0_7.index t 1 = t.val % 8 ∧ win0_7.index t 2 = 0)
    ∧ (win0_8.index t 0 = t.val / 8 ∧ win0_8.index t 1 = t.val % 8 ∧ win0_8.index t 2 = 0) := by
  decide +kernel

/-- The results' windows are row blocks too. -/
theorem byRowOut : ∀ t : Fin grid0.N,
    (win0_19.index t 0 = t.val / 8 ∧ win0_19.index t 1 = t.val % 8 ∧ win0_19.index t 2 = 0)
    ∧ (win0_20.index t 0 = t.val / 8 ∧ win0_20.index t 1 = t.val % 8 ∧ win0_20.index t 2 = 0)
    ∧ (win0_21.index t 0 = t.val / 8 ∧ win0_21.index t 1 = t.val % 8 ∧ win0_21.index t 2 = 0) := by
  decide +kernel

/-- A window of whole chains reads block (chain). -/
theorem byChain : ∀ t : Fin grid0.N,
    (win0_1.index t 0 = t.val / 8 ∧ win0_1.index t 1 = 0 ∧ win0_1.index t 2 = 0)
    ∧ (win0_3.index t 0 = t.val / 8 ∧ win0_3.index t 1 = 0 ∧ win0_3.index t 2 = 0)
    ∧ (win0_5.index t 0 = t.val / 8 ∧ win0_5.index t 1 = 0 ∧ win0_5.index t 2 = 0)
    ∧ (win0_9.index t 0 = t.val / 8 ∧ win0_9.index t 1 = 0 ∧ win0_9.index t 2 = 0) := by
  decide +kernel

/-- The other windows read their arrays whole. -/
theorem whole : ∀ t : Fin grid0.N,
    (win0_10.index t 0 = 0 ∧ win0_10.index t 1 = 0) ∧ (win0_11.index t 0 = 0 ∧ win0_11.index t 1 = 0)
    ∧ (win0_12.index t 0 = 0 ∧ win0_12.index t 1 = 0) ∧ (win0_13.index t 0 = 0 ∧ win0_13.index t 1 = 0)
    ∧ (win0_14.index t 0 = 0 ∧ win0_14.index t 1 = 0) ∧ (win0_15.index t 0 = 0 ∧ win0_15.index t 1 = 0)
    ∧ (win0_16.index t 0 = 0 ∧ win0_16.index t 1 = 0) ∧ (win0_17.index t 0 = 0 ∧ win0_17.index t 1 = 0)
    ∧ (win0_18.index t 0 = 0 ∧ win0_18.index t 1 = 0) := by
  decide +kernel

variable (t : Fin cfg0.N)

theorem block0 (r : Fin 64) (s : Fin 15) :
    (iblk m c 0 t : Vec Ideal S1x64x15 .f32) (ix3 0 r s) = places (argX m c) (batch t) (place t r) s := by
  rw [← entry0]
  blk_ext [iblk, byRow t] <;> simp only [batch, place] <;> omega

theorem block1 (s : Fin 15) (j : Fin 512) :
    (iblk m c 1 t : Vec Ideal S1x15x512 .f32) (ix3 0 s j) = places (argX m c) (batch t) j s := by
  rw [← entry1]
  blk_ext [iblk, byChain t] <;> simp only [batch] <;> omega

theorem block2 (r : Fin 64) :
    (iblk m c 2 t : Vec Ideal S1x64x1 .f32) (ix3 0 r 0) = argM m c (ix2 (batch t) (place t r)) := by
  rw [← entry2]
  blk_ext [iblk, byRow t] <;> simp only [batch, place] <;> omega

theorem block3 (j : Fin 512) :
    (iblk m c 3 t : Vec Ideal S1x1x512 .f32) (ix3 0 0 j) = argM m c (ix2 (batch t) j) := by
  rw [← entry3]
  blk_ext [iblk, byChain t] <;> simp only [batch] <;> omega

theorem block4 (r : Fin 64) :
    (iblk m c 4 t : Vec Ideal S1x64x1 .f32) (ix3 0 r 0) = (((argN m c (ix2 (batch t) (place t r))).toInt : ℝ) : EReal) := by
  rw [← entry5]
  blk_ext [iblk, byRow t] <;> simp only [batch, place] <;> omega

theorem block5 (j : Fin 512) :
    (iblk m c 5 t : Vec Ideal S1x512x1 .f32) (ix3 0 j 0) = (((argN m c (ix2 (batch t) j)).toInt : ℝ) : EReal) := by
  rw [← entry5]
  blk_ext [iblk, byChain t] <;> simp only [batch] <;> omega

theorem block6 (r : Fin 64) (a : Fin 78) :
    (iblk m c 6 t : Vec Ideal S1x64x78 .f32) (ix3 0 r a) = sides (argY m c) (batch t) (place t r) a 0 := by
  rw [← entry7]
  blk_ext [iblk, byRow t] <;> simp only [batch, place] <;> omega

theorem block7 (r : Fin 64) (a : Fin 78) :
    (iblk m c 7 t : Vec Ideal S1x64x78 .f32) (ix3 0 r a) = sides (argY m c) (batch t) (place t r) a 1 := by
  rw [← entry8]
  blk_ext [iblk, byRow t] <;> simp only [batch, place] <;> omega

theorem block8 (r : Fin 64) (a : Fin 78) :
    (iblk m c 8 t : Vec Ideal S1x64x78 .f32) (ix3 0 r a) = sides (argY m c) (batch t) (place t r) a 2 := by
  rw [← entry9]
  blk_ext [iblk, byRow t] <;> simp only [batch, place] <;> omega

theorem block9 (d : Fin 3) (a : Fin 16) :
    (iblk m c 9 t : Vec Ideal S1x3x16 .f32) (ix3 0 d a) = argZ m c (ix3 (batch t) a d) := by
  rw [← entry10]
  blk_ext [iblk, byChain t] <;> simp only [batch] <;> omega

theorem block10 (s : Fin 16) (k : Fin 72) :
    (iblk m c 10 t : Vec Ideal S16x72 .f32) (ix2 s k) = (if s.val = (coord (siteA ⟨k / 3, by omega⟩) ⟨k % 3, by omega⟩).val then 1 else 0 : EReal) := by
  refine Eq.trans ?_ (entry_sa m c s k)
  blk_ext [iblk, whole t]

theorem block11 (s : Fin 16) (k : Fin 72) :
    (iblk m c 11 t : Vec Ideal S16x72 .f32) (ix2 s k) = (if s.val = (coord (siteB ⟨k / 3, by omega⟩) ⟨k % 3, by omega⟩).val then 1 else 0 : EReal) := by
  refine Eq.trans ?_ (entry_sb m c s k)
  blk_ext [iblk, whole t]

theorem block12 (k : Fin 72) (q : Fin 24) :
    (iblk m c 12 t : Vec Ideal S72x24 .f32) (ix2 k q) = (if k.val / 3 = q.val then 1 else 0 : EReal) := by
  refine Eq.trans ?_ (entry_ss m c k q)
  blk_ext [iblk, whole t]

theorem block13 (g : Fin 26) (j : Fin 400) :
    (iblk m c 13 t : Vec Ideal S26x400 .f32) (ix2 g j) = (if g.val = 25 then -Ideal.ofBits .f32 (centreWord ⟨j % 16, by omega⟩) else if g.val = j.val / 16 then 1 else 0 : EReal) := by
  refine Eq.trans ?_ (entry_smu m c g j)
  blk_ext [iblk, whole t]

theorem block14 (u : Fin 66) (o : Fin 128) :
    (iblk m c 14 t : Vec Ideal S66x128 .f32) (ix2 u o) = (∑ k : Fin 16, argT m c (ix2 u k) * argW m c (ix2 ⟨k, by omega⟩ o) : EReal) := by
  refine Eq.trans ?_ (entry12 m c u o)
  blk_ext [iblk, whole t]

theorem block15 (j : Fin 400) (o : Fin 128) :
    (iblk m c 15 t : Vec Ideal S400x128 .f32) (ix2 j o) = argW m c (ix2 ⟨16 + j, by omega⟩ o) := by
  refine Eq.trans ?_ (entry16 m c j o)
  blk_ext [iblk, whole t]

theorem block16 (o : Fin 128) :
    (iblk m c 16 t : Vec Ideal S1x128 .f32) (ix2 0 o) = (∑ k : Fin 16, argU m c (ix1 k) * argW m c (ix2 ⟨k, by omega⟩ o) : EReal) := by
  refine Eq.trans ?_ (entry15 m c o)
  blk_ext [iblk, whole t]

theorem block17 (o : Fin 128) :
    (iblk m c 17 t : Vec Ideal S1x128 .f32) (ix2 0 o) = argG m c (ix1 o) := by
  refine Eq.trans ?_ (entry17 m c o)
  blk_ext [iblk, whole t]

theorem block18 (o : Fin 128) :
    (iblk m c 18 t : Vec Ideal S1x128 .f32) (ix2 0 o) = argB m c (ix1 o) := by
  refine Eq.trans ?_ (entry18 m c o)
  blk_ext [iblk, whole t]

end Cert.Edges
-- ==== Proof.Tables.lean ====
/- The kernel body's vectors over one block, read at an index: the sites' coordinates, the distances, and the third
   result's block. -/
module

public import Idealize.ShloMosaic.Lib.Pointwise
public import proofs.«01_k».proof.Proof.Spec
public import proofs.«01_k».proof.Proof.Gen.KernelIdeal.Frame

@[expose] public section

set_option maxRecDepth 16384

noncomputable section

namespace Cert.Edges

open Idealize.ShloMosaic Idealize.ShloMosaic.TcCoe Idealize.SL.Sem
open Cert.KernelIdeal Cert.KernelIdeal.Gen

theorem rowVirt (x0 : Vec Ideal S1x64x15 .f32) (r : Fin 64) (d : Fin 3) :
    k0_pay7 (F := Ideal) x0 (ix2 r d) = virt (fun s => x0 (ix3 0 r s)) d := by
  pointwise [k0_pay7, k0_pay6, k0_pay5, k0_pay4, k0_pay3]
  fin_cases d <;> rfl

theorem rowTable (x0 : Vec Ideal S1x64x15 .f32) (x4 : Vec Ideal S1x64x1 .f32) (r : Fin 64) (s : Fin 16) :
    k0_pay8 (F := Ideal) x0 x4 (ix2 r s)
      = if h : s.val < 15 then site (fun s => x0 (ix3 0 r s)) ⟨s, h⟩ else x4 (ix3 0 r 0) := by
  pointwise [k0_pay8, k0_pay6, k0_pay5, k0_pay4, k0_pay3, rowVirt]
  fin_cases s <;> rfl

theorem colTable (x1 : Vec Ideal S1x15x512 .f32) (x5 : Vec Ideal S1x512x1 .f32) (j : Fin 512) (s : Fin 16) :
    k0_pay21 (F := Ideal) (k0_pay2 x1) (k0_pay16 (k0_pay2 x1)) (k0_pay17 (k0_pay2 x1) (k0_pay9 x1) (k0_pay10 x1))
      (k0_pay18 (k0_pay2 x1) (k0_pay9 x1) (k0_pay10 x1)) (k0_pay19 (k0_pay2 x1) (k0_pay9 x1) (k0_pay10 x1)) k0_pay20 x5 (ix2 j s)
      = if h : s.val < 15 then site (fun s => x1 (ix3 0 s j)) ⟨s, h⟩ else x5 (ix3 0 j 0) := by
  pointwise [k0_pay21, k0_pay16, k0_pay17, k0_pay18, k0_pay19, k0_pay20, k0_pay15, k0_pay14, k0_pay13, k0_pay12, k0_pay11, k0_pay10, k0_pay9, k0_pay2]
  fin_cases s <;> rfl

theorem near (x1 : Vec Ideal S1x15x512 .f32) (x0 : Vec Ideal S1x64x15 .f32) (r : Fin 64) (j : Fin 512) :
    k0_pay22 (F := Ideal) (k0_pay2 x1) (k0_pay5 x0) (ix2 r j) = gap (fun s => x0 (ix3 0 r s)) (fun s => x1 (ix3 0 s j)) := by
  pointwise [k0_pay22, k0_pay5, k0_pay3, k0_pay2]
  rw [gap, Fin.sum_univ_three]
  rfl

theorem fold_max (f : Fin 512 → EReal) :
    Finset.fold max (Ideal.ofBits FTy.f32 4286578688#32) f Finset.univ = Finset.univ.sup f := by
  rw [show Ideal.ofBits FTy.f32 4286578688#32 = (⊥ : EReal) from word_neg_inf]; rfl

theorem first (x1 : Vec Ideal S1x15x512 .f32) (x0 : Vec Ideal S1x64x15 .f32) (x2 : Vec Ideal S1x64x1 .f32)
    (x3 : Vec Ideal S1x1x512 .f32) (r : Fin 64) (j : Fin 512) :
    k0_pay25 (F := Ideal) (k0_pay22 (k0_pay2 x1) (k0_pay5 x0)) (k0_pay23 x2) (k0_pay24 x3) (ix2 r j) =
      x2 (ix3 0 r 0) * x3 (ix3 0 0 j) * gap (fun s => x0 (ix3 0 r s)) (fun s => x1 (ix3 0 s j))
        + (1 - x2 (ix3 0 r 0) * x3 (ix3 0 0 j)) * Finset.univ.sup fun l : Fin 512 =>
          x2 (ix3 0 r 0) * x3 (ix3 0 0 l) * gap (fun s => x0 (ix3 0 r s)) (fun s => x1 (ix3 0 s l)) := by
  pointwise [k0_pay25, k0_pay24, k0_pay23, near]
  rw [fold_max]

theorem reachRow (x0 : Vec Ideal S1x64x15 .f32) (x6 x7 x8 : Vec Ideal S1x64x78 .f32) (z0 z1 z2 : Vec Ideal S1x1x16 .f32)
    (r : Fin 64) (a : Fin 94) :
    k0_pay1 (F := Ideal) (k0_pay175 (k0_pay7 x0)) (k0_pay176 (k0_pay7 x0)) (k0_pay177 (k0_pay7 x0)) (k0_pay178 (k0_pay7 x0) x6 x7 x8)
      (k0_pay179 z0) (k0_pay180 z1) z2 (ix3 0 r a) =
    reach (fun s => x0 (ix3 0 r s)) (fun a => ![x6 (ix3 0 r a), x7 (ix3 0 r a), x8 (ix3 0 r a)])
      (fun a => ![z0 (ix3 0 0 a), z1 (ix3 0 0 a), z2 (ix3 0 0 a)]) a := by
  pointwise [k0_pay1, k0_pay175, k0_pay176, k0_pay177, k0_pay178, k0_pay179, k0_pay180, rowVirt]
  rw [reach, Fin.sum_univ_three]
  by_cases h : a.val < 78
  · simp only [dif_pos h]; rfl
  · simp only [dif_neg h]; rfl

end Cert.Edges
-- ==== Proof.Rounds.lean ====
/- The kernel's thirty rounds of picking a nearest row, as one round repeated: each vector that the body carries from one
   stretch of the rounds to the next is the corresponding vector of the repetition. -/
module

public import proofs.«01_k».proof.Proof.Consts
public import proofs.«01_k».proof.Proof.Gen.KernelIdeal.Frame

@[expose] public section

set_option maxRecDepth 16384

noncomputable section

namespace Cert.Edges

open Idealize.ShloMosaic Idealize.ShloMosaic.TcCoe Idealize.SL.Sem
open Cert.KernelIdeal Cert.KernelIdeal.Gen

variable {F : FTy → Type} [FloatOps F] [Named F]

/-- The least of each row. -/
def low1 (d : FVec F S64x512 .f32) : FVec F S64 .f32 :=
  multiReduction .minimumf [1] S64 d 0x7F800000#32 reduces_S64x512_S64 (.inl rfl) rfl

/-- The least of each row, as a column. -/
def low (d : FVec F S64x512 .f32) : FVec F S64x1 .f32 := shapeCast S64x1 (low1 d) shapeCasts_S64_S64x1

/-- The column numbers down the rows, as the search for a row's least spreads them. -/
def across (l : FVec F S1x512 .f32) : FVec F S64x512 .f32 :=
  broadcastTo S64x512 (shapeCast S1x512 l shapeCasts_S1x512_S1x512) broadcasts_S1x512_S64x512

/-- Where a row holds its least. -/
def hits (d : FVec F S64x512 .f32) : IVec S64x512 1 := cmpf .oeq d (broadcastTo S64x512 (low d) broadcasts_S64x1_S64x512)

/-- The column numbers where a row holds its least, and 1e9 elsewhere. -/
def marks (l : FVec F S1x512 .f32) (d : FVec F S64x512 .f32) : FVec F S64x512 .f32 :=
  select (hits d) (across l) (broadcast S64x512 (Scalar.ofBits .f32 0x4E6E6B28#32))

/-- The first column at which a row holds its least. -/
def spot (l : FVec F S1x512 .f32) (d : FVec F S64x512 .f32) : FVec F S64x1 .f32 := low (marks l d)

/-- The entries of each row at its first least column. -/
def taken (l : FVec F S1x512 .f32) (d : FVec F S64x512 .f32) : IVec S64x512 1 :=
  cmpf .oeq (broadcastTo S64x512 l broadcasts_S1x512_S64x512) (broadcastTo S64x512 (spot l d) broadcasts_S64x1_S64x512)

/-- A round's outcome: the entry taken is put far away. -/
def next (l : FVec F S1x512 .f32) (d : FVec F S64x512 .f32) : FVec F S64x512 .f32 :=
  select (taken l d) (broadcast S64x512 (Named.named κ "far" 0x7149F2CA#32)) d

/-- The distances after `k` rounds. -/
def rest (l : FVec F S1x512 .f32) (D : FVec F S64x512 .f32) : ℕ → FVec F S64x512 .f32
  | 0 => D
  | k + 1 => next l (rest l D k)

/-- The places of a result row that round `k` fills. -/
def slot (s : FVec F S64x32 .f32) (k : ℕ) : IVec S64x32 1 :=
  cmpf .oeq s (broadcast S64x32 (Scalar.ofBits .f32 (slotWord k)))

/-- A column set down at the places of round `k`. -/
def put (s : FVec F S64x32 .f32) (k : ℕ) (v : FVec F S64x1 .f32) (acc : FVec F S64x32 .f32) : FVec F S64x32 .f32 :=
  select (slot s k) (broadcastTo S64x32 (shapeCast S64x1 v shapeCasts_S64x1_S64x1) broadcasts_S64x1_S64x32) acc

/-- What the first `n` rounds set down, round `k` the column `v k`. -/
def filled (s : FVec F S64x32 .f32) (v : ℕ → FVec F S64x1 .f32) : ℕ → FVec F S64x32 .f32
  | 0 => broadcast S64x32 (Scalar.ofBits .f32 0x00000000#32)
  | k + 1 => put s k (v k) (filled s v k)

section
variable (x0 : Vec F S1x64x15 .f32) (x1 : Vec F S1x15x512 .f32) (x2 : Vec F S1x64x1 .f32) (x3 : Vec F S1x1x512 .f32)
  (x4 : Vec F S1x64x1 .f32) (x5 : Vec F S1x512x1 .f32) (x6 x7 x8 : Vec F S1x64x78 .f32) (x9 : Vec F S1x3x16 .f32)
  (x10 x11 : Vec F S16x72 .f32) (x12 : Vec F S72x24 .f32) (x13 : Vec F S26x400 .f32) (x14 : Vec F S66x128 .f32)
  (x15 : Vec F S400x128 .f32) (x16 x17 x18 : Vec F S1x128 .f32)

/-- The distances that the rounds start from. -/
def start : FVec F S64x512 .f32 :=
  k0_pay25 (k0_pay187 x0 x1 x2 x3 x4 x5 x6 x7 x8 x9 x10 x11 x12 x13 x14 x15 x16 x17 x18) (k0_pay188 x0 x1 x2 x3 x4 x5 x6 x7 x8 x9 x10 x11 x12 x13 x14 x15 x16 x17 x18) (k0_pay189 x0 x1 x2 x3 x4 x5 x6 x7 x8 x9 x10 x11 x12 x13 x14 x15 x16 x17 x18)

/-- The places, as the last rounds leave them. -/
theorem places_eq : k0_pay227 x0 x1 x2 x3 x4 x5 x6 x7 x8 x9 x10 x11 x12 x13 x14 x15 x16 x17 x18 = filled k0_pay27 (fun k => spot k0_pay26 (rest k0_pay26 (start x0 x1 x2 x3 x4 x5 x6 x7 x8 x9 x10 x11 x12 x13 x14 x15 x16 x17 x18) k)) 30 := rfl

/-- The second result's block. -/
theorem out20_eq : out0_20 x0 x1 x2 x3 x4 x5 x6 x7 x8 x9 x10 x11 x12 x13 x14 x15 x16 x17 x18 = View.canon [⟨r0_5, shapeCast S1x64x32 (fptosi 32 (addf
    (filled k0_pay27 (fun k => spot k0_pay26 (rest k0_pay26 (start x0 x1 x2 x3 x4 x5 x6 x7 x8 x9 x10 x11 x12 x13 x14 x15 x16 x17 x18) k)) 30)
    (broadcast S64x32 (Scalar.ofBits .f32 0x3F000000#32)))) shapeCasts_S64x32_S1x64x32⟩] := rfl

/-- The first result's block. -/
theorem out19_eq (T : FVec F S512x16 .f32) (A : FVec F S64x16 .f32) (I V : FVec F S64x32 .f32) (p : FVec F S1920x64 .f32)
    (q : FVec F S1920x32 .f32)
    (hT : T = k0_pay186 x0 x1 x2 x3 x4 x5 x6 x7 x8 x9 x10 x11 x12 x13 x14 x15 x16 x17 x18) (hA : A = k0_pay183 x0 x1 x2 x3 x4 x5 x6 x7 x8 x9 x10 x11 x12 x13 x14 x15 x16 x17 x18) (hp : p = k0_pay229 x0 x1 x2 x3 x4 x5 x6 x7 x8 x9 x10 x11 x12 x13 x14 x15 x16 x17 x18) (hq : q = k0_pay167)
    (hI : I = filled k0_pay27 (fun k => spot k0_pay26 (rest k0_pay26 (start x0 x1 x2 x3 x4 x5 x6 x7 x8 x9 x10 x11 x12 x13 x14 x15 x16 x17 x18) k)) 30)
    (hV : V = filled k0_pay27 (fun k => low (rest k0_pay26 (start x0 x1 x2 x3 x4 x5 x6 x7 x8 x9 x10 x11 x12 x13 x14 x15 x16 x17 x18) k)) 30) :
    out0_19 x0 x1 x2 x3 x4 x5 x6 x7 x8 x9 x10 x11 x12 x13 x14 x15 x16 x17 x18 = View.canon [⟨r0_12, k0_pay174 (k0_pay173 (k0_pay169 T I p q)
      (k0_pay171 A T I p q (mulf (matmul dot_S1920x64_S64x32_S1920x32_1_0_0_1_n_n (some .fp32) p V
          (constant S1920x32 .f32 0x00000000#32)) q)
        (View.ld x10 r0_6) (View.ld x11 r0_6) (View.ld x12 r0_7) (View.ld x13 r0_8))
      (k0_pay172 A p) (View.ld x15 r0_9) (View.ld x14 r0_10) (View.ld x16 r0_11)) (View.ld x17 r0_11) (View.ld x18 r0_11)⟩] := by
  subst hT hA hI hV hp hq
  rfl
end
end Cert.Edges
-- ==== Proof.Rows.lean ====
/- The rounds read row by row: what a round takes is the row's first least entry. -/
module

public import Idealize.ShloMosaic.Lib.Pointwise
public import proofs.«01_k».proof.Proof.Nearest
public import proofs.«01_k».proof.Proof.Rounds

@[expose] public section

set_option maxRecDepth 16384

noncomputable section

namespace Cert.Edges

open Idealize.ShloMosaic Idealize.ShloMosaic.TcCoe Idealize.SL.Sem
open Cert.KernelIdeal Cert.KernelIdeal.Gen

theorem lane_apply (j : Fin 512) : k0_pay26 (F := Ideal) (ix2 0 j) = ((j.val : ℝ) : EReal) := by
  pointwise [k0_pay26]
  exact num_of_word (by omega)

theorem fold_min (f : Fin 512 → EReal) :
    Finset.fold min (Ideal.ofBits FTy.f32 2139095040#32) f Finset.univ = Finset.univ.inf f := by
  rw [show Ideal.ofBits FTy.f32 2139095040#32 = (⊤ : EReal) from word_inf]; rfl

theorem low_apply (d : FVec Ideal S64x512 .f32) (r : Fin 64) :
    low d (ix2 r 0) = Finset.univ.inf fun j : Fin 512 => d (ix2 r j) := by
  pointwise [low, low1]
  exact fold_min _

theorem spot_apply (d : FVec Ideal S64x512 .f32) (r : Fin 64) :
    spot k0_pay26 d (ix2 r 0) = ((least fun j : Fin 512 => d (ix2 r j)).val : ℝ) := by
  rw [spot, low_apply]
  pointwise [marks, hits, across, low_apply, lane_apply]
  refine inf_position (fun j : Fin 512 => d (ix2 r j)) _ fun l => ?_
  rw [show Ideal.ofBits FTy.f32 1315859240#32 = _ from word_billion, EReal.coe_le_coe_iff]
  exact_mod_cast (by omega : l.val ≤ 1000000000)

theorem far_value : Named.named (F := Ideal) (φ := .f32) κ "far" 0x7149F2CA#32 = (⊤ : EReal) :=
  IdealRules.named_const.ideal_named_scalar _ _ _ _ rfl

theorem next_apply (d : FVec Ideal S64x512 .f32) (r : Fin 64) (j : Fin 512) :
    next k0_pay26 d (ix2 r j) = without (fun j : Fin 512 => d (ix2 r j)) j := by
  pointwise [next, taken, spot_apply, lane_apply]
  rw [show Named.named (F := Ideal) (φ := .f32) κ "far" 1900671690#32 = (⊤ : EReal) from far_value]
  simp only [nat_cast_inj, without, Fin.val_inj]

theorem rest_apply (D : FVec Ideal S64x512 .f32) (r : Fin 64) (k : ℕ) :
    (fun j : Fin 512 => rest k0_pay26 D k (ix2 r j)) = after (fun j : Fin 512 => D (ix2 r j)) k := by
  induction k with
  | zero => rfl
  | succ k ih =>
    rw [after_succ, ← ih]
    funext j
    exact next_apply _ r j

theorem slot_apply (k : Fin 30) (r : Fin 64) (q : Fin 32) :
    slot (F := Ideal) k0_pay27 k (ix2 r q) = if q.val = k.val then 1#1 else 0#1 := by
  pointwise [slot, k0_pay27]
  rw [num_of_word (by omega), slot_words]
  simp only [nat_cast_inj]
  by_cases h : q.val = k.val <;> simp [h]

theorem filled_apply (v : ℕ → FVec Ideal S64x1 .f32) (n : ℕ) (hn : n ≤ 30) (r : Fin 64) (q : Fin 32) :
    filled k0_pay27 v n (ix2 r q) = if q.val < n then v q (ix2 r 0) else 0 := by
  induction n with
  | zero => pointwise [filled]; simp
  | succ n ih =>
    have hs := slot_apply ⟨n, hn⟩ r q
    pointwise [filled, put]
    dsimp only at hs
    rw [hs, ih (by omega)]
    by_cases h : q.val = n
    · simp [h, Scalar.select]
    · have : (q.val < n + 1) = (q.val < n) := propext ⟨fun _ => by omega, fun _ => by omega⟩
      simp [h, Scalar.select, this]

end Cert.Edges
-- ==== Proof.Select.lean ====
/- The kernel body's zero-one matrices, read at an index, and the sums that they select from. -/
module

public import Idealize.ShloMosaic.Lib.Pointwise
public import proofs.«01_k».proof.Proof.Spec
public import proofs.«01_k».proof.Proof.Gen.KernelIdeal.Frame

@[expose] public section

set_option maxRecDepth 16384

noncomputable section

namespace Cert.Edges

open Idealize.ShloMosaic Idealize.ShloMosaic.TcCoe Idealize.SL.Sem
open Cert.KernelIdeal Cert.KernelIdeal.Gen

/-- A comparison of words, as a number. -/
theorem eq_num (x y : BitVec 32) :
    FloatOps.sitofp (F := Ideal) FTy.f32 (BitVec.setWidth 32 (IntOp.cmpi CmpIPredicate.eq x y)) = if x = y then 1 else 0 := by
  show (((BitVec.setWidth 32 (BitVec.ofBool (x == y))).toInt : ℝ) : EReal) = _
  by_cases h : x = y
  · rw [if_pos h, h, beq_self_eq_true, show (BitVec.setWidth 32 (BitVec.ofBool true)).toInt = 1 from by decide]; norm_num
  · rw [if_neg h, beq_eq_false_iff_ne.mpr h, show (BitVec.setWidth 32 (BitVec.ofBool false)).toInt = 0 from by decide]; norm_num

theorem word_inj {a b : ℕ} (ha : a < 4294967296) (hb : b < 4294967296) : BitVec.ofNat 32 a = BitVec.ofNat 32 b ↔ a = b := by
  refine ⟨fun h => ?_, congrArg _⟩
  have := congrArg BitVec.toNat h
  simp only [BitVec.toNat_ofNat] at this
  omega

/-- A natural number and a half, cut to the natural number. -/
theorem cut_half {n : ℕ} (h : n < 2147483648) :
    FloatOps.fptosi (F := Ideal) (φ := FTy.f32) 32 (((n : ℝ) : EReal) + Ideal.ofBits FTy.f32 1056964608#32) = BitVec.ofNat 32 n := by
  rw [show Ideal.ofBits FTy.f32 1056964608#32 = _ from word_half, ← EReal.coe_add]
  show BitVec.ofInt 32 (max _ (min _ (if (0 : ℝ) ≤ n + 1 / 2 then ⌊(n + 1 / 2 : ℝ)⌋ else _))) = _
  rw [if_pos (by positivity), show ⌊(n + 1 / 2 : ℝ)⌋ = (n : ℤ) from by rw [Int.floor_eq_iff]; constructor <;> push_cast <;> linarith]
  rw [min_eq_right (by norm_num; omega), max_eq_right (by norm_num)]
  exact BitVec.ofInt_natCast ..

theorem select_right {n : ℕ} (f : Fin n → EReal) (P : Fin n → Prop) [DecidablePred P] (a : Fin n) (h : ∀ x, P x ↔ x = a) :
    ∑ x, f x * (if P x then 1 else 0) = f a := by
  simp only [h, mul_ite, mul_one, mul_zero, Finset.sum_ite_eq', Finset.mem_univ, if_true]

theorem select_left {n : ℕ} (f : Fin n → EReal) (P : Fin n → Prop) [DecidablePred P] (a : Fin n) (h : ∀ x, P x ↔ x = a) :
    ∑ x, (if P x then 1 else 0) * f x = f a := by
  simp only [mul_comm _ (f _)]; exact select_right f P a h

theorem quotient (m : Fin 1920) : (Scalar.select
            (IntOp.andi
              (IntOp.cmpi CmpIPredicate.ne
                (IntOp.subi (BitVec.setWidth 32 (IntOp.cmpi CmpIPredicate.sgt (BitVec.ofNat 32 m.val) 0#32))
                  (BitVec.setWidth 32 (IntOp.cmpi CmpIPredicate.slt (BitVec.ofNat 32 m.val) 0#32)))
                (Scalar.subi (Scalar.extui (Scalar.cmpi CmpIPredicate.sgt 30#32 0#32))
                  (Scalar.extui (Scalar.cmpi CmpIPredicate.slt 30#32 0#32))))
              (IntOp.cmpi CmpIPredicate.ne (IntOp.remsi ArithUnit.vector (BitVec.ofNat 32 m.val) 30#32) 0#32))
            (IntOp.subi (IntOp.divsi ArithUnit.vector (BitVec.ofNat 32 m.val) 30#32) 1#32)
            (IntOp.divsi ArithUnit.vector (BitVec.ofNat 32 m.val) 30#32)) = BitVec.ofNat 32 (m.val / 30) := by
  revert m; decide +kernel

theorem remainder (m : Fin 1920) : (Scalar.select
            (IntOp.andi
              (IntOp.xori
                (IntOp.cmpi CmpIPredicate.slt
                  (IntOp.remsi ArithUnit.vector (BitVec.ofNat 32 m.val)
                    (Scalar.select (Scalar.cmpi CmpIPredicate.eq 30#32 0#32) 1#32 30#32))
                  0#32)
                (Scalar.cmpi CmpIPredicate.slt (Scalar.select (Scalar.cmpi CmpIPredicate.eq 30#32 0#32) 1#32 30#32)
                  0#32))
              (IntOp.cmpi CmpIPredicate.ne
                (IntOp.remsi ArithUnit.vector (BitVec.ofNat 32 m.val)
                  (Scalar.select (Scalar.cmpi CmpIPredicate.eq 30#32 0#32) 1#32 30#32))
                0#32))
            (IntOp.addi
              (IntOp.remsi ArithUnit.vector (BitVec.ofNat 32 m.val)
                (Scalar.select (Scalar.cmpi CmpIPredicate.eq 30#32 0#32) 1#32 30#32))
              (Scalar.select (Scalar.cmpi CmpIPredicate.eq 30#32 0#32) 1#32 30#32))
            (IntOp.remsi ArithUnit.vector (BitVec.ofNat 32 m.val)
              (Scalar.select (Scalar.cmpi CmpIPredicate.eq 30#32 0#32) 1#32 30#32))) = BitVec.ofNat 32 (m.val % 30) := by
  revert m; decide +kernel

/-- Which of a block's residues a row belongs to. -/
def owner : FVec Ideal S1920x64 .f32 := k0_pay166 (iota .tc S1920x64 32 [0] iota_S1920x64_d0_w32)
  (iota .tc S1920x64 32 [1] iota_S1920x64_d1_w32) 30#32 k0_pay165 0#32

/-- Row `m` of a block's 1920 belongs to residue `m / 30`. -/
theorem rep_apply (m : Fin 1920) (r : Fin 64) :
    owner (ix2 m r) = if m.val / 30 = r.val then 1 else 0 := by
  pointwise [owner, k0_pay166, k0_pay165]
  rw [quotient, eq_num]
  simp only [word_inj (show m.val / 30 < 4294967296 by omega) (show r.val < 4294967296 by omega)]

/-- Row `m` of a block's 1920 belongs to neighbour `m % 30`. -/
theorem msel_apply (m : Fin 1920) (q : Fin 32) :
    k0_pay167 (F := Ideal) (ix2 m q) = if m.val % 30 = q.val then 1 else 0 := by
  pointwise [k0_pay167]
  rw [remainder, eq_num]
  simp only [word_inj (show m.val % 30 < 4294967296 by omega) (show q.val < 4294967296 by omega)]

/-- The residue of row `m`. -/
def own (m : Fin 1920) : Fin 64 := ⟨m / 30, by omega⟩

/-- The neighbour's rank of row `m`. -/
def rank (m : Fin 1920) : Fin 32 := ⟨m % 30, by omega⟩

theorem own_sum (f : Fin 64 → EReal) (m : Fin 1920) : ∑ x, owner (ix2 m x) * f x = f (own m) := by
  simp only [rep_apply]
  exact select_left f _ (own m) fun x => by simp only [own, Fin.ext_iff]; omega

theorem rank_sum (f : Fin 32 → EReal) (m : Fin 1920) : ∑ x, f x * k0_pay167 (F := Ideal) (ix2 m x) = f (rank m) := by
  simp only [msel_apply]
  exact select_right f _ (rank m) fun x => by simp only [rank, Fin.ext_iff]; omega

/-- The neighbour's row of the table. -/
theorem got (T : FVec Ideal S512x16 .f32) (I : FVec Ideal S64x32 .f32) (m : Fin 1920) (s : Fin 16) (n : Fin 512)
    (h : I (ix2 (own m) (rank m)) = ((n.val : ℝ) : EReal)) :
    k0_pay169 T I owner k0_pay167 (ix2 m s) = T (ix2 n s) := by
  pointwise [k0_pay169]
  simp only [own_sum, rank_sum, h, cut_half (show n.val < 2147483648 by omega), eq_num]
  exact select_left (fun x => T (ix2 x s)) _ n fun x => by
    rw [word_inj (by omega) (by omega), Fin.ext_iff]

end Cert.Edges
-- ==== Proof.Loads.lean ====
/- The body's vectors over its blocks' whole contents. -/
module

public import Idealize.ShloMosaic.Lib.Pipeline.ValueKit
public import proofs.«01_k».proof.Proof.Select
public import proofs.«01_k».proof.Proof.Rounds

@[expose] public section

set_option maxRecDepth 16384

noncomputable section

namespace Cert.Edges

open Idealize.ShloMosaic Idealize.ShloMosaic.TcCoe Idealize.SL.Sem
open Cert.KernelIdeal Cert.KernelIdeal.Gen

theorem offsets2 : (![0, 0] : Fin 2 → ℕ) = fun _ => 0 := funext fun a => by fin_cases a <;> rfl

theorem offsets3 : (![0, 0, 0] : Fin 3 → ℕ) = fun _ => 0 := funext fun a => by fin_cases a <;> rfl

variable (x0 : Vec Ideal S1x64x15 .f32) (x1 : Vec Ideal S1x15x512 .f32) (x2 : Vec Ideal S1x64x1 .f32) (x3 : Vec Ideal S1x1x512 .f32)
  (x4 : Vec Ideal S1x64x1 .f32) (x5 : Vec Ideal S1x512x1 .f32) (x6 x7 x8 : Vec Ideal S1x64x78 .f32) (x9 : Vec Ideal S1x3x16 .f32)
  (x10 x11 : Vec Ideal S16x72 .f32) (x12 : Vec Ideal S72x24 .f32) (x13 : Vec Ideal S26x400 .f32) (x14 : Vec Ideal S66x128 .f32)
  (x15 : Vec Ideal S400x128 .f32) (x16 x17 x18 : Vec Ideal S1x128 .f32)

theorem virt_of : k0_pay182 x0 x1 x2 x3 x4 x5 x6 x7 x8 x9 x10 x11 x12 x13 x14 x15 x16 x17 x18 = k0_pay7 x0 := by
  unfold k0_pay182
  rw [View.ld_unit_zero (S := S1x64x15) offsets3]

theorem rows_of : k0_pay183 x0 x1 x2 x3 x4 x5 x6 x7 x8 x9 x10 x11 x12 x13 x14 x15 x16 x17 x18 = k0_pay8 x0 x4 := by
  unfold k0_pay183
  rw [View.ld_unit_zero (S := S1x64x15) offsets3, View.ld_unit_zero (S := S1x64x1) offsets3]

theorem start_of : start x0 x1 x2 x3 x4 x5 x6 x7 x8 x9 x10 x11 x12 x13 x14 x15 x16 x17 x18
    = k0_pay25 (k0_pay22 (k0_pay2 x1) (k0_pay5 x0)) (k0_pay23 x2) (k0_pay24 x3) := by
  unfold start k0_pay187 k0_pay188 k0_pay189 k0_pay181
  rw [View.ld_unit_zero (S := S1x64x15) offsets3, View.ld_unit_zero (S := S1x15x512) offsets3,
    View.ld_unit_zero (S := S1x64x1) offsets3, View.ld_unit_zero (S := S1x1x512) offsets3]

theorem table_of : k0_pay186 x0 x1 x2 x3 x4 x5 x6 x7 x8 x9 x10 x11 x12 x13 x14 x15 x16 x17 x18
    = k0_pay21 (k0_pay2 x1) (k0_pay16 (k0_pay2 x1)) (k0_pay17 (k0_pay2 x1) (k0_pay9 x1) (k0_pay10 x1))
      (k0_pay18 (k0_pay2 x1) (k0_pay9 x1) (k0_pay10 x1)) (k0_pay19 (k0_pay2 x1) (k0_pay9 x1) (k0_pay10 x1)) k0_pay20 x5 := by
  unfold k0_pay186 k0_pay181 k0_pay184 k0_pay185
  rw [View.ld_unit_zero (S := S1x15x512) offsets3, View.ld_unit_zero (S := S1x512x1) offsets3]

theorem owner_of : k0_pay229 x0 x1 x2 x3 x4 x5 x6 x7 x8 x9 x10 x11 x12 x13 x14 x15 x16 x17 x18 = owner := rfl

theorem lig0 (a : Fin 16) : View.ld x9 r0_14 (ix3 0 0 a) = x9 (ix3 0 0 a) :=
  congrArg x9 (by ext k; fin_cases k <;> simp)

theorem lig1 (a : Fin 16) : View.ld x9 r0_15 (ix3 0 0 a) = x9 (ix3 0 1 a) :=
  congrArg x9 (by ext k; fin_cases k <;> simp)

theorem lig2 (a : Fin 16) : View.ld x9 r0_16 (ix3 0 0 a) = x9 (ix3 0 2 a) :=
  congrArg x9 (by ext k; fin_cases k <;> simp)

/-- The second result's block. -/
theorem second_of : out0_20 x0 x1 x2 x3 x4 x5 x6 x7 x8 x9 x10 x11 x12 x13 x14 x15 x16 x17 x18 = shapeCast S1x64x32 (fptosi 32 (addf
    (filled k0_pay27 (fun k => spot k0_pay26 (rest k0_pay26 (k0_pay25 (k0_pay22 (k0_pay2 x1) (k0_pay5 x0)) (k0_pay23 x2) (k0_pay24 x3)) k)) 30)
    (broadcast S64x32 (Scalar.ofBits .f32 0x3F000000#32)))) shapeCasts_S64x32_S1x64x32 := by
  rw [out20_eq, View.canon_unit_zero (S := S1x64x32) offsets3, start_of]

/-- The first result's block. -/
theorem first_of (T : FVec Ideal S512x16 .f32) (A : FVec Ideal S64x16 .f32) (I V : FVec Ideal S64x32 .f32)
    (hT : T = k0_pay21 (k0_pay2 x1) (k0_pay16 (k0_pay2 x1)) (k0_pay17 (k0_pay2 x1) (k0_pay9 x1) (k0_pay10 x1))
      (k0_pay18 (k0_pay2 x1) (k0_pay9 x1) (k0_pay10 x1)) (k0_pay19 (k0_pay2 x1) (k0_pay9 x1) (k0_pay10 x1)) k0_pay20 x5)
    (hA : A = k0_pay8 x0 x4)
    (hI : I = filled k0_pay27 (fun k => spot k0_pay26 (rest k0_pay26 (k0_pay25 (k0_pay22 (k0_pay2 x1) (k0_pay5 x0)) (k0_pay23 x2) (k0_pay24 x3)) k)) 30)
    (hV : V = filled k0_pay27 (fun k => low (rest k0_pay26 (k0_pay25 (k0_pay22 (k0_pay2 x1) (k0_pay5 x0)) (k0_pay23 x2) (k0_pay24 x3)) k)) 30) :
    out0_19 x0 x1 x2 x3 x4 x5 x6 x7 x8 x9 x10 x11 x12 x13 x14 x15 x16 x17 x18
      = k0_pay174 (k0_pay173 (k0_pay169 T I owner k0_pay167)
        (k0_pay171 A T I owner k0_pay167 (mulf (matmul dot_S1920x64_S64x32_S1920x32_1_0_0_1_n_n (some .fp32) owner V
            (constant S1920x32 .f32 0x00000000#32)) k0_pay167) x10 x11 x12 x13)
        (k0_pay172 A owner) x15 x14 x16) x17 x18 := by
  rw [out19_eq x0 x1 x2 x3 x4 x5 x6 x7 x8 x9 x10 x11 x12 x13 x14 x15 x16 x17 x18 T A I V owner k0_pay167 (by rw [hT, table_of])
      (by rw [hA, rows_of]) (by rw [owner_of]) rfl (by rw [hI, start_of]) (by rw [hV, start_of]),
    View.canon_unit_zero (S := S1x1920x128) offsets3]
  simp only [View.ld_unit_zero (S := S16x72) offsets2, View.ld_unit_zero (S := S72x24) offsets2, View.ld_unit_zero (S := S26x400) offsets2,
    View.ld_unit_zero (S := S400x128) offsets2, View.ld_unit_zero (S := S66x128) offsets2, View.ld_unit_zero (S := S1x128) offsets2]

end Cert.Edges
-- ==== Proof.Bumps.lean ====
/- A block's radial features and its normalized rows, read at an index. -/
module

public import Idealize.ShloMosaic.Lib.Pointwise
public import proofs.«01_k».proof.Proof.Select

@[expose] public section

set_option maxRecDepth 16384

noncomputable section

namespace Cert.Edges

open Idealize.ShloMosaic Idealize.ShloMosaic.TcCoe Idealize.SL.Sem
open Cert.KernelIdeal Cert.KernelIdeal.Gen

theorem thirds (f : Fin 72 → EReal) (q : Fin 24) :
    ∑ c : Fin 72, f c * (if c.val / 3 = q.val then 1 else 0) = ∑ d : Fin 3, f ⟨3 * q + d, by omega⟩ := by
  rw [← (finProdFinEquiv (m := 24) (n := 3)).sum_comp, Fintype.sum_prod_type]
  rw [Finset.sum_eq_single q]
  · refine Finset.sum_congr rfl fun d _ => ?_
    rw [if_pos (by simp [finProdFinEquiv]; omega), mul_one]
    exact congrArg f (Fin.ext (by simp [finProdFinEquiv]; omega))
  · intro b _ hb
    refine Finset.sum_eq_zero fun d _ => ?_
    rw [if_neg (by simp only [finProdFinEquiv, Equiv.coe_fn_mk]; intro h; exact hb (Fin.ext (by omega))), mul_zero]
  · exact fun h => absurd (Finset.mem_univ q) h

/-- A row of the radial table: one feature less its centre. -/
theorem centred (f : Fin 26 → EReal) (j : Fin 400) (h : f 25 = 1) :
    ∑ g : Fin 26, f g * (if g.val = 25 then -Ideal.ofBits .f32 (centreWord ⟨j % 16, by omega⟩) else if g.val = j.val / 16 then 1 else 0)
      = f ⟨j / 16, by omega⟩ - Ideal.ofBits .f32 (centreWord ⟨j % 16, by omega⟩) := by
  rw [Fin.sum_univ_castSucc, if_pos (by decide), show Fin.last 25 = 25 from rfl, h, one_mul, sub_eq_add_neg]
  congr 1
  rw [Finset.sum_congr rfl fun g _ => by rw [if_neg (show ¬(Fin.castSucc g).val = 25 from by rw [Fin.val_castSucc]; omega)]]
  exact select_right (fun g : Fin 25 => f g.castSucc) _ ⟨j / 16, by omega⟩ fun x => by rw [Fin.ext_iff]; rfl

variable (T : FVec Ideal S512x16 .f32) (A : FVec Ideal S64x16 .f32) (I V : FVec Ideal S64x32 .f32)
    (x10 x11 : Vec Ideal S16x72 .f32) (x12 : Vec Ideal S72x24 .f32) (x13 : Vec Ideal S26x400 .f32)

theorem bumps (m : Fin 1920) (j : Fin 400) (n : Fin 512) (p p' : Fin 15 → EReal)
    (hI : I (ix2 (own m) (rank m)) = ((n.val : ℝ) : EReal))
    (hA : ∀ s : Fin 15, A (ix2 (own m) ⟨s, by omega⟩) = site p s)
    (hT : ∀ s : Fin 15, T (ix2 n ⟨s, by omega⟩) = site p' s)
    (h10 : ∀ s c, x10 (ix2 s c) = if s.val = (coord (siteA ⟨c / 3, by omega⟩) ⟨c % 3, by omega⟩).val then 1 else 0)
    (h11 : ∀ s c, x11 (ix2 s c) = if s.val = (coord (siteB ⟨c / 3, by omega⟩) ⟨c % 3, by omega⟩).val then 1 else 0)
    (h12 : ∀ c q, x12 (ix2 c q) = if c.val / 3 = q.val then 1 else 0)
    (h13 : ∀ g j, x13 (ix2 g j) = if g.val = 25 then -Ideal.ofBits .f32 (centreWord ⟨j % 16, by omega⟩)
      else if g.val = j.val / 16 then 1 else 0) :
    k0_pay171 A T I owner k0_pay167
      (mulf (matmul dot_S1920x64_S64x32_S1920x32_1_0_0_1_n_n (some .fp32) owner V (constant S1920x32 .f32 0)) k0_pay167)
      x10 x11 x12 x13 (ix2 m j)
    = Ideal.exp (-(((if h : j.val / 16 < 1 then V (ix2 (own m) (rank m)) else apart p p' ⟨j / 16 - 1, by omega⟩)
          - Ideal.ofBits .f32 (centreWord ⟨j % 16, by omega⟩)) * ((4 / 5 : ℝ) : EReal)
      * (((if h : j.val / 16 < 1 then V (ix2 (own m) (rank m)) else apart p p' ⟨j / 16 - 1, by omega⟩)
          - Ideal.ofBits .f32 (centreWord ⟨j % 16, by omega⟩)) * ((4 / 5 : ℝ) : EReal)))) := by
  pointwise [k0_pay171, k0_pay170]
  simp only [got T I m _ n hI]
  have zero : Ideal.ofBits FTy.f32 0 = 0 := Ideal.ofBits_zero .f32
  have e10 : ∀ c, ∑ x, A (ix2 (own m) x) * x10 (ix2 x c) = site p (coord (siteA ⟨c / 3, by omega⟩) ⟨c % 3, by omega⟩) := fun c => by
    simp only [h10]
    rw [select_right (fun x => A (ix2 (own m) x)) _ ⟨_, Nat.lt_succ_of_lt (coord (siteA ⟨c / 3, by omega⟩) ⟨c % 3, by omega⟩).isLt⟩
      fun x => by rw [Fin.ext_iff]]
    exact hA _
  have e11 : ∀ c, ∑ x, T (ix2 n x) * x11 (ix2 x c) = site p' (coord (siteB ⟨c / 3, by omega⟩) ⟨c % 3, by omega⟩) := fun c => by
    simp only [h11]
    rw [select_right (fun x => T (ix2 n x)) _ ⟨_, Nat.lt_succ_of_lt (coord (siteB ⟨c / 3, by omega⟩) ⟨c % 3, by omega⟩).isLt⟩
      fun x => by rw [Fin.ext_iff]]
    exact hT _
  have e12 : ∀ q, ∑ c : Fin 72, (site p (coord (siteA ⟨c / 3, by omega⟩) ⟨c % 3, by omega⟩)
        - site p' (coord (siteB ⟨c / 3, by omega⟩) ⟨c % 3, by omega⟩))
      * (site p (coord (siteA ⟨c / 3, by omega⟩) ⟨c % 3, by omega⟩)
        - site p' (coord (siteB ⟨c / 3, by omega⟩) ⟨c % 3, by omega⟩)) * x12 (ix2 c q)
      = ∑ c : Fin 3, (site p (coord (siteA q) c) - site p' (coord (siteB q) c))
        * (site p (coord (siteA q) c) - site p' (coord (siteB q) c)) := fun q => by
    simp only [h12]
    rw [thirds (fun c : Fin 72 => (site p (coord (siteA ⟨c / 3, by omega⟩) ⟨c % 3, by omega⟩)
        - site p' (coord (siteB ⟨c / 3, by omega⟩) ⟨c % 3, by omega⟩))
      * (site p (coord (siteA ⟨c / 3, by omega⟩) ⟨c % 3, by omega⟩)
        - site p' (coord (siteB ⟨c / 3, by omega⟩) ⟨c % 3, by omega⟩)))]
    refine Finset.sum_congr rfl fun d _ => ?_
    rw [show (⟨(3 * q.val + d.val) / 3, by omega⟩ : Fin 24) = q from Fin.ext (by simp only; omega),
      show (⟨(3 * q.val + d.val) % 3, by omega⟩ : Fin 3) = d from Fin.ext (by simp only; omega)]
  have e13 : ∀ (f : Fin 26 → EReal), f 25 = 1 → ∑ g, f g * x13 (ix2 g j)
      = f ⟨j / 16, by omega⟩ - Ideal.ofBits .f32 (centreWord ⟨j % 16, by omega⟩) := fun f h => by
    simp only [h13]; exact centred f j h
  simp only [own_sum, zero, zero_add, rank_sum (fun x => V (ix2 (own m) x)), e10, e11, e12]
  rw [e13 _ (by rfl)]
  simp only [dif_pos (show j.val / 16 - 1 < 24 by omega)]
  rw [show Named.named (F := Ideal) (φ := .f32) κ "inv_sigma" 1061997773#32 = ((4 / 5 : ℝ) : EReal) from
    IdealRules.named_const.ideal_named_scalar _ _ _ _ rfl, sub_eq_add_neg, zero_add]
  rfl

/-- A block's edges: mixed, normalized, scaled and shifted. -/
theorem edgeRows (G : FVec Ideal S1920x16 .f32) (B : FVec Ideal S1920x400 .f32) (a : FVec Ideal S1920x1 .f32)
    (x15 : Vec Ideal S400x128 .f32) (x14 : Vec Ideal S66x128 .f32) (x16 x17 x18 : Vec Ideal S1x128 .f32)
    (m : Fin 1920) (u u' : ℤ) (ha : a (ix2 m 0) = ((u : ℝ) : EReal)) (hG : G (ix2 m 15) = ((u' : ℝ) : EReal)) (o : Fin 128) :
    k0_pay174 (k0_pay173 G B a x15 x14 x16) x17 x18 (ix3 0 m o)
      = normed (fun o => ∑ j : Fin 400, B (ix2 m j) * x15 (ix2 j o) + x14 (ix2 (turn u u') o) + x16 (ix2 0 o))
        (fun o => x17 (ix2 0 o)) (fun o => x18 (ix2 0 o)) o := by
  have clip : min (Ideal.ofBits FTy.f32 1115684864#32)
      (max 0 (a (ix2 m 0) - G (ix2 m 15) + Ideal.ofBits FTy.f32 1107296256#32)) = (((turn u u').val : ℝ) : EReal) := by
    rw [show Ideal.ofBits FTy.f32 1115684864#32 = _ from word_64, show Ideal.ofBits FTy.f32 1107296256#32 = _ from word_32, ha, hG,
      ← EReal.coe_sub, ← EReal.coe_add, ← EReal.coe_zero, ← EReal.coe_strictMono.monotone.map_max, ← EReal.coe_strictMono.monotone.map_min, EReal.coe_eq_coe_iff]
    have h : (((turn u u').val : ℤ) : ℝ) = ((max 0 (min 64 (u - u' + 32)) : ℤ) : ℝ) := by
      rw [turn]; exact congrArg _ (Int.toNat_of_nonneg (le_max_left _ _))
    rw [← Int.cast_natCast, h]
    push_cast
    rw [min_max_distrib_left, min_eq_right (by norm_num : (0 : ℝ) ≤ 64)]
  pointwise [k0_pay173, k0_pay174]
  simp only [clip, cut_half (show (turn u u').val < 2147483648 by omega), eq_num]
  have row : ∀ o, ∑ x : Fin 66, (if BitVec.ofNat 32 x.val = BitVec.ofNat 32 (turn u u').val then 1 else 0) * x14 (ix2 x o)
      = x14 (ix2 (turn u u') o) := fun o =>
    select_left (fun x => x14 (ix2 x o)) _ _ fun x => by rw [word_inj (by omega) (by omega), Fin.ext_iff]
  simp only [row]
  rfl

end Cert.Edges
-- ==== Proof.Final.lean ====
/- The launch's three result arrays after the run. -/
module

public import proofs.«01_k».proof.Proof.Blocks
public import proofs.«01_k».proof.Proof.Tables
public import proofs.«01_k».proof.Proof.Rows
public import proofs.«01_k».proof.Proof.Loads
public import proofs.«01_k».proof.Proof.Bumps

@[expose] public section

set_option maxRecDepth 16384

noncomputable section

namespace Cert.Edges

open Idealize.ShloMosaic Idealize.ShloMosaic.TcCoe Idealize.SL.Sem
open Cert.KernelIdeal Cert.KernelIdeal.Gen

/-- The mask and the residues' numbers of a chain. -/
def shown (M : Vec Ideal ⟨2, ![2, 512]⟩ .f32) (b : Fin 2) (i : Fin 512) : EReal := M (ix2 b i)
def number (N : Vec Ideal ⟨2, ![2, 512]⟩ .i32) (b : Fin 2) (i : Fin 512) : ℤ := (N (ix2 b i)).toInt

/-- The first result, as the edges' rows. -/
def firstAt (X : Vec Ideal ⟨4, ![2, 512, 5, 3]⟩ .f32) (M : Vec Ideal ⟨2, ![2, 512]⟩ .f32) (N : Vec Ideal ⟨2, ![2, 512]⟩ .i32)
    (T : Vec Ideal ⟨2, ![66, 16]⟩ .f32) (U : Vec Ideal ⟨1, ![16]⟩ .f32) (W : Vec Ideal ⟨2, ![416, 128]⟩ .f32)
    (G B : Vec Ideal ⟨1, ![128]⟩ .f32) (b : Fin 2) (i : Fin 512) (k : ℕ) (o : Fin 128) : EReal :=
  normed (mixed (places X b) (shown M b) (number N b) (fun u k => T (ix2 u k)) (fun k => U (ix1 k)) (fun j o => W (ix2 j o)) i k)
    (fun o => G (ix1 o)) (fun o => B (ix1 o)) o

/-- The third result. -/
def thirdAt (X : Vec Ideal ⟨4, ![2, 512, 5, 3]⟩ .f32) (Y : Vec Ideal ⟨4, ![2, 512, 3, 78]⟩ .f32) (Z : Vec Ideal ⟨3, ![2, 16, 3]⟩ .f32)
    (b : Fin 2) (i : Fin 512) (a : Fin 94) : EReal :=
  reach (places X b i) (sides Y b i) (fun a d => Z (ix3 b a d)) a

variable (m : (ℓ : Loc nD τ sig) → Buf (Elt Ideal) ℓ) (c : Dev nD)

theorem at19 (t : Fin cfg0.N) (m : Fin 1920) (o : Fin 128) :
    (win0_19.blk t).view.emb (ix3 0 m o) = ix3 (batch t) ⟨1920 * (t.val % 8) + m, by omega⟩ o := by
  blk_ext [byRowOut t] <;> simp only [batch] <;> omega

theorem at20 (t : Fin cfg0.N) (r : Fin 64) (q : Fin 32) : (win0_20.blk t).view.emb (ix3 0 r q) = ix3 (batch t) (place t r) q := by
  blk_ext [byRowOut t] <;> simp only [batch, place] <;> omega

theorem at21 (t : Fin cfg0.N) (r : Fin 64) (a : Fin 94) : (win0_21.blk t).view.emb (ix3 0 r a) = ix3 (batch t) (place t r) a := by
  blk_ext [byRowOut t] <;> simp only [batch, place] <;> omega

theorem reach_congr {p p' : Fin 15 → EReal} {Y Y' : Fin 78 → Fin 3 → EReal} {Z Z' : Fin 16 → Fin 3 → EReal} {a : Fin 94}
    (hp : p = p') (hY : ∀ a d, Y a d = Y' a d) (hZ : ∀ a d, Z a d = Z' a d) : reach p Y Z a = reach p' Y' Z' a := by
  rw [hp, show Y = Y' from funext fun a => funext (hY a), show Z = Z' from funext fun a => funext (hZ a)]

theorem normed_congr {y y' g g' b b' : Fin 128 → EReal} (o : Fin 128) (hy : ∀ o, y o = y' o) (hg : ∀ o, g o = g' o) (hb : ∀ o, b o = b' o) :
    normed y g b o = normed y' g' b' o := by
  rw [show y = y' from funext hy, show g = g' from funext hg, show b = b' from funext hb]

theorem final21 : (dats m 0 c).arrAt 21 (cfgs 0).N
    = (fun i => thirdAt (argX m c) (argY m c) (argZ m c) (i 0) (i 1) (i 2) : Vec Ideal S2x512x94 .f32) := by
  refine (dats m 0 c).arrAt_eq_of_covers 21 _ (by decide +kernel) fun t hf y => ?_
  blk_simp
  rw [after0_21]
  frame_out
  rw [virt_of]
  revert y
  intro (y : S1x64x94.Idx)
  idx_vars y
  obtain rfl := Fin.fin_one_eq_zero y0
  refine (reachRow ..).trans (Eq.trans ?_ (congrArg (fun i : S2x512x94.Idx => thirdAt (argX m c) (argY m c) (argZ m c) (i 0) (i 1) (i 2)) (at21 t y1 y2)).symm)
  show _ = thirdAt (argX m c) (argY m c) (argZ m c) (batch t) (place t y1) y2
  unfold thirdAt
  simp only [block0, block6, block7, block8, lig0, lig1, lig2, block9]
  exact reach_congr rfl (fun a d => by fin_cases d <;> rfl) fun a d => by
    fin_cases d
    · exact (lig0 _ a).trans (block9 m c t 0 a)
    · exact (lig1 _ a).trans (block9 m c t 1 a)
    · exact (lig2 _ a).trans (block9 m c t 2 a)

theorem away_of (t : Fin cfg0.N) (r : Fin 64) :
    (fun j => k0_pay25 (F := Ideal) (k0_pay22 (k0_pay2 (iblk m c 1 t)) (k0_pay5 (iblk m c 0 t))) (k0_pay23 (iblk m c 2 t)) (k0_pay24 (iblk m c 3 t)) (ix2 r j))
      = away (places (argX m c) (batch t)) (shown (argM m c) (batch t)) (place t r) := by
  funext j
  refine (first _ _ _ _ r j).trans ?_
  simp only [block0, block1, block2, block3]
  rfl

theorem spot_of (t : Fin cfg0.N) (r : Fin 64) (q : Fin 32) :
    filled k0_pay27 (fun k => spot k0_pay26 (rest k0_pay26 (k0_pay25 (F := Ideal) (k0_pay22 (k0_pay2 (iblk m c 1 t)) (k0_pay5 (iblk m c 0 t)))
      (k0_pay23 (iblk m c 2 t)) (k0_pay24 (iblk m c 3 t))) k)) 30 (ix2 r q)
    = (((if q.val < 30 then (nbr (places (argX m c) (batch t)) (shown (argM m c) (batch t)) (place t r) q.val).val else 0 : ℕ) : ℝ) : EReal) := by
  rw [filled_apply _ _ le_rfl]
  by_cases h : q.val < 30
  · rw [if_pos h, if_pos h, spot_apply, rest_apply, away_of]; rfl
  · rw [if_neg h, if_neg h]; norm_num

theorem low_of (t : Fin cfg0.N) (r : Fin 64) (q : Fin 32) (hq : q.val < 30)
    (hf : ∀ j, away (places (argX m c) (batch t)) (shown (argM m c) (batch t)) (place t r) j < ⊤) :
    filled k0_pay27 (fun k => low (rest k0_pay26 (k0_pay25 (F := Ideal) (k0_pay22 (k0_pay2 (iblk m c 1 t)) (k0_pay5 (iblk m c 0 t)))
      (k0_pay23 (iblk m c 2 t)) (k0_pay24 (iblk m c 3 t))) k)) 30 (ix2 r q)
    = away (places (argX m c) (batch t)) (shown (argM m c) (batch t)) (place t r)
      (nbr (places (argX m c) (batch t)) (shown (argM m c) (batch t)) (place t r) q.val) := by
  rw [filled_apply _ _ le_rfl, if_pos hq, low_apply, rest_apply, away_of, inf_eq_least]
  exact after_pick _ hf q.val (by omega)

theorem final20 : (dats m 0 c).arrAt 20 (cfgs 0).N
    = (fun i => BitVec.ofNat 32 (if (i 2).val < 30 then (nbr (places (argX m c) (i 0)) (shown (argM m c) (i 0)) (i 1) (i 2).val).val else 0)
      : Vec Ideal S2x512x32 .i32) := by
  refine (dats m 0 c).arrAt_eq_of_covers 20 _ (by decide +kernel) fun t hf y => ?_
  revert y
  intro (y : S1x64x32.Idx)
  idx_vars y
  obtain rfl := Fin.fin_one_eq_zero y0
  refine Eq.trans ?_ (congrArg (fun i : S2x512x32.Idx => BitVec.ofNat 32 (if (i 2).val < 30 then
    (nbr (places (argX m c) (i 0)) (shown (argM m c) (i 0)) (i 1) (i 2).val).val else 0)) (at20 t y1 y2)).symm
  blk_simp
  rw [after0_20, second_of]
  pointwise
  rw [spot_of, cut_half (by split <;> omega)]

/-- The first result's array: row `30 i + k` holds residue `i`'s `k`-th edge. -/
theorem final19 (hf : ∀ b i j, away (places (argX m c) b) (shown (argM m c) b) i j < ⊤) : (dats m 0 c).arrAt 19 (cfgs 0).N
    = (fun i => firstAt (argX m c) (argM m c) (argN m c) (argT m c) (argU m c) (argW m c) (argG m c) (argB m c)
      (i 0) ⟨(i 1).val / 30, by have : (i 1).val < 15360 := (i 1).isLt; omega⟩ ((i 1).val % 30) (i 2) : Vec Ideal S2x15360x128 .f32) := by
  refine (dats m 0 c).arrAt_eq_of_covers 19 _ (by decide +kernel) fun t _ y => ?_
  revert y
  intro (y : S1x1920x128.Idx)
  idx_vars y
  obtain rfl := Fin.fin_one_eq_zero y0
  refine Eq.trans ?_ (congrArg (fun i : S2x15360x128.Idx => firstAt (argX m c) (argM m c) (argN m c) (argT m c) (argU m c) (argW m c) (argG m c) (argB m c)
      (i 0) ⟨(i 1).val / 30, by have : (i 1).val < 15360 := (i 1).isLt; omega⟩ ((i 1).val % 30) (i 2)) (at19 t y1 y2)).symm
  blk_simp
  rw [after0_19, first_of _ _ _ _ _ _ _ _ _ _ _ _ _ _ _ _ _ _ _ _ _ _ _ rfl rfl rfl rfl]
  have hk : (rank y1).val < 30 := Nat.mod_lt _ (by norm_num)
  have hI := spot_of m c t (own y1) (rank y1)
  have hV := low_of m c t (own y1) (rank y1) hk (hf (batch t) (place t (own y1)))
  rw [if_pos hk] at hI
  set n := nbr (places (argX m c) (batch t)) (shown (argM m c) (batch t)) (place t (own y1)) (rank y1).val with hn
  refine (edgeRows _ _ _ _ _ _ _ _ y1 (number (argN m c) (batch t) (place t (own y1))) (number (argN m c) (batch t) n) ?_ ?_ y2).trans ?_
  · pointwise [k0_pay172, k0_pay170]
    rw [own_sum (fun x => k0_pay8 (iblk m c 0 t) (iblk m c 4 t) (ix2 x 15)), rowTable, dif_neg (by decide)]
    exact block4 ..
  · rw [got _ _ y1 15 n hI, colTable, dif_neg (by decide)]
    exact block5 ..
  · show _ = firstAt (argX m c) (argM m c) (argN m c) (argT m c) (argU m c) (argW m c) (argG m c) (argB m c) (batch t)
      ⟨(1920 * (t.val % 8) + y1.val) / 30, by omega⟩ ((1920 * (t.val % 8) + y1.val) % 30) y2
    rw [show (⟨(1920 * (t.val % 8) + y1.val) / 30, by omega⟩ : Fin 512) = place t (own y1) from
        Fin.ext (by simp only [place, own]; omega), show (1920 * (t.val % 8) + y1.val) % 30 = (rank y1).val from by simp only [rank]; omega]
    unfold firstAt
    refine normed_congr y2 (fun o => ?_) (fun o => block17 ..) fun o => block18 ..
    unfold mixed
    rw [← hn]
    refine congrArg₂ (· + ·) (congrArg₂ (· + ·) (Finset.sum_congr rfl fun j _ => congrArg₂ (· * ·) ?_ (block15 ..)) (block14 ..)) (block16 ..)
    refine (bumps _ _ _ _ _ _ _ _ y1 j n (places (argX m c) (batch t) (place t (own y1))) (places (argX m c) (batch t) n) hI
      (fun s => ?_) (fun s => ?_) (block10 m c t) (block11 m c t) (block12 m c t) (block13 m c t)).trans ?_
    · rw [rowTable, dif_pos s.isLt]
      simp only [block0]
    · rw [colTable, dif_pos s.isLt]
      simp only [block1]
    · rw [hV]; rfl

end Cert.Edges
-- ==== Proof.Given.lean ====
/- What the precondition says of the arguments, entry by entry. -/
module

public import proofs.«01_k».proof.Defs
public import proofs.«01_k».proof.Proof.Final
public import proofs.«01_k».proof.Proof.Gen.Pre_finite_and_in_range

@[expose] public section

set_option maxRecDepth 16384

noncomputable section

namespace Cert.Edges

open Idealize.ShloMosaic

theorem word_eps : eps = ((8796093 * 2 ^ (-43 : ℤ) : ℝ) : EReal) := by
  unfold eps
  simp [Ideal.ofBits, Ideal.ieee, -EReal.coe_mul]

/-- A number whose magnitude is below infinity is finite. -/
theorem finite_of (x : EReal) (h : BitVec.ofBool (decide (FloatOps.absf (F := Ideal) (φ := .f32) x < Ideal.ofBits .f32 2139095040#32)) = 1#1) :
    ∃ r : ℝ, x = r := by
  rw [show Ideal.ofBits .f32 2139095040#32 = _ from word_inf] at h
  have h' : max x (-x) < (⊤ : EReal) := by
    by_contra hn
    rw [show decide (FloatOps.absf (F := Ideal) (φ := .f32) x < (⊤ : EReal)) = false from decide_eq_false hn] at h
    exact absurd h (by decide)
  induction x with
  | coe r => exact ⟨r, rfl⟩
  | top => exact absurd h' (by simp)
  | bot => exact absurd h' (by simp)

/-- A word compared with two bounds lies between them. -/
theorem range_of (w : BitVec 32) (h : IntOp.andi (IntOp.cmpi .sge w 0#32) (IntOp.cmpi .slt w 1024#32) = 1#1) :
    0 ≤ w.toInt ∧ w.toInt < 1024 := by
  have h' : BitVec.ofBool (BitVec.sle 0#32 w) &&& BitVec.ofBool (BitVec.slt w 1024#32) = 1#1 := h
  by_cases h1 : BitVec.sle 0#32 w = true
  · by_cases h2 : BitVec.slt w 1024#32 = true
    · rw [BitVec.sle_iff_toInt_le] at h1
      rw [BitVec.slt_iff_toInt_lt] at h2
      exact ⟨h1, h2⟩
    · rw [Bool.not_eq_true] at h2
      rw [h1, h2] at h'
      exact absurd h' (by decide)
  · rw [Bool.not_eq_true] at h1
    rw [h1] at h'
    exact absurd h' (by cases BitVec.slt w 1024#32 <;> decide)

/-- The distance of two finite points is finite. -/
theorem gap_finite (p q : Fin 15 → EReal) (hp : ∀ d : Fin 3, ∃ r : ℝ, p ⟨3 + d, by omega⟩ = r) (hq : ∀ d : Fin 3, ∃ r : ℝ, q ⟨3 + d, by omega⟩ = r) :
    ∃ r : ℝ, gap p q = r := by
  choose u hu using hp
  choose v hv using hq
  unfold gap
  obtain ⟨e, h0, he⟩ : ∃ e : ℝ, 0 ≤ e ∧ eps = e := ⟨_, by positivity, word_eps⟩
  have hs : (∑ d : Fin 3, (p ⟨3 + d, by omega⟩ - q ⟨3 + d, by omega⟩) * (p ⟨3 + d, by omega⟩ - q ⟨3 + d, by omega⟩)) + eps
      = ((∑ d : Fin 3, (u d - v d) * (u d - v d)) + e : ℝ) := by
    simp only [hu, hv, he, Fin.sum_univ_three]
    norm_cast
  rw [hs]
  rw [Ideal.sqrt_coe, if_neg (not_lt.mpr (add_nonneg (Finset.sum_nonneg fun d _ => mul_self_nonneg _) h0))]
  exact ⟨_, rfl⟩

/-- A masked distance among finite points is finite. -/
theorem away_finite (P : Fin 512 → Fin 15 → EReal) (M : Fin 512 → EReal) (hP : ∀ i (d : Fin 3), ∃ r : ℝ, P i ⟨3 + d, by omega⟩ = r) (hM : ∀ i, ∃ r : ℝ, M i = r)
    (i j : Fin 512) : away P M i j < ⊤ := by
  choose u hu using hM
  have hg : ∀ j, ∃ r : ℝ, gap (P i) (P j) = r := fun j => gap_finite _ _ (hP i) (hP j)
  choose v hv using hg
  obtain ⟨l, -, hl⟩ := Finset.exists_mem_eq_sup (Finset.univ : Finset (Fin 512)) Finset.univ_nonempty fun l => M i * M l * gap (P i) (P l)
  unfold away
  rw [hl]
  simp only [hu, hv]
  exact (by norm_cast : ((u i : EReal) * u j * v j + (1 - (u i : EReal) * u j) * (u i * u l * v l) = ((u i * u j * v j + (1 - u i * u j) * (u i * u l * v l) : ℝ) : EReal))) ▸ EReal.coe_lt_top _

open Cert.KernelIdeal Cert.KernelIdeal.Gen

variable (m : (ℓ : Loc nD τ sig) → Buf (Elt Ideal) ℓ) (h : Cert.Pre_KernelIdeal_finite_and_in_range m) (c : Dev nD)
include h

theorem givenX (b : Fin 2) (i : Fin 512) (d : Fin 3) : ∃ r : ℝ, argX m c (ix4 b i 1 d) = (r : EReal) := by
  have := congrFun (h c).1 (ix3 b i d)
  revert this
  pointwise [Cert.Pre_finite_and_in_range.fn, Cert.Pre_finite_and_in_range.fn_part1]
  exact finite_of _

theorem givenM (b : Fin 2) (i : Fin 512) : ∃ r : ℝ, argM m c (ix2 b i) = (r : EReal) := by
  have := congrFun (h c).2.1 (ix2 b i)
  revert this
  pointwise [Cert.Pre_finite_and_in_range.fn, Cert.Pre_finite_and_in_range.fn_part1]
  exact finite_of _

theorem givenU (k : Fin 16) : ∃ r : ℝ, argU m c (ix1 k) = (r : EReal) := by
  have := congrFun (h c).2.2.1 (ix1 k)
  revert this
  pointwise [Cert.Pre_finite_and_in_range.fn, Cert.Pre_finite_and_in_range.fn_part1]
  exact finite_of _

theorem givenW (k : Fin 16) (o : Fin 128) : ∃ r : ℝ, argW m c (ix2 ⟨k, by omega⟩ o) = (r : EReal) := by
  have := congrFun (h c).2.2.2.1 (ix2 k o)
  revert this
  pointwise [Cert.Pre_finite_and_in_range.fn, Cert.Pre_finite_and_in_range.fn_part1]
  exact finite_of _

theorem givenN (b : Fin 2) (i : Fin 512) : 0 ≤ number (argN m c) b i ∧ number (argN m c) b i < 1024 := by
  have := congrFun (h c).2.2.2.2 (ix2 b i)
  revert this
  pointwise [Cert.Pre_finite_and_in_range.fn, Cert.Pre_finite_and_in_range.fn_part1]
  exact range_of _

theorem givenAway (b : Fin 2) (i j : Fin 512) : away (places (argX m c) b) (shown (argM m c) b) i j < ⊤ := by
  refine away_finite _ _ (fun i d => ?_) (fun i => givenM m h c b i) i j
  obtain ⟨r, hr⟩ := givenX m h c b i d
  refine ⟨r, (congrArg (argX m c) ?_).trans hr⟩
  fin_cases d <;> rfl

end Cert.Edges
-- ==== Proof.Ends.lean ====
/- The kernel's run, read: its three results as functions of its arguments. -/
module

public import proofs.«01_k».proof.Proof.Final
public import Idealize.ShloMosaic.Lib.Claim

@[expose] public section

set_option maxRecDepth 16384

noncomputable section

namespace Cert.Edges

open Idealize.ShloMosaic Idealize.ShloMosaic.TcCoe Idealize.SL.Sem
open Cert.KernelIdeal Cert.KernelIdeal.Gen

variable (m : (ℓ : Loc nD τ sig) → Buf (Elt Ideal) ℓ) (g : Dev nD → PrngReg) (c : Dev nD)

/-- An array of the region, after it, is what the region leaves there. -/
theorem left (w : Fin (cfgs 0).W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr_shared (cfgs 0).spec c _ _
    ((dats m 0 c).arrAt_sharedIn sharedIn0 (V0 m c) (fun w => A_eq m c w) _) w

theorem after20 : Pipeline.afterTail₀ cfgs (dats m) 0 (V0 m) [hostOps1] c main_v20
    = shapeCast S2x512x30x128 ((dats m 0 c).arrAt 19 (cfgs 0).N : Vec Ideal S2x15360x128 .f32) shapeCasts_S2x15360x128_S2x512x30x128 := by
  show StableHlo.after hostOps1 (Pipeline.withArrays (cfgs 0).spec c (V0 m c) fun w => (dats m 0 c).arrAt w (cfgs 0).N) (Proc.devRef .tc main_v20) = _
  rw [← left m c 19]
  generalize Pipeline.withArrays (cfgs 0).spec c (V0 m c) (fun w => (dats m 0 c).arrAt w (cfgs 0).N) = G
  after_results
  rfl

theorem after21 : Pipeline.afterTail₀ cfgs (dats m) 0 (V0 m) [hostOps1] c main_v21
    = extractStridedSlice S2x512x30 ![0, 0, 0] ((dats m 0 c).arrAt 20 (cfgs 0).N : Vec Ideal S2x512x32 .i32) slices_S2x512x32_S2x512x30_0_0_0 := by
  show StableHlo.after hostOps1 (Pipeline.withArrays (cfgs 0).spec c (V0 m c) fun w => (dats m 0 c).arrAt w (cfgs 0).N) (Proc.devRef .tc main_v21) = _
  rw [← left m c 20]
  generalize Pipeline.withArrays (cfgs 0).spec c (V0 m c) (fun w => (dats m 0 c).arrAt w (cfgs 0).N) = G
  after_results

/-- The three results. -/
def firstResult : Vec Ideal S2x512x30x128 .f32 := fun i =>
  firstAt (argX m c) (argM m c) (argN m c) (argT m c) (argU m c) (argW m c) (argG m c) (argB m c) (i 0) (i 1) (i 2).val (i 3)
def secondResult : Vec Ideal S2x512x30 .i32 := fun i =>
  BitVec.ofNat 32 (nbr (places (argX m c) (i 0)) (shown (argM m c) (i 0)) (i 1) (i 2).val).val
def thirdResult : Vec Ideal S2x512x94 .f32 := fun i => thirdAt (argX m c) (argY m c) (argZ m c) (i 0) (i 1) (i 2)

theorem cast_first (F : Vec Ideal S2x15360x128 .f32) (b : Fin 2) (i : Fin 512) (k : Fin 30) (o : Fin 128) :
    shapeCast S2x512x30x128 F shapeCasts_S2x15360x128_S2x512x30x128 (ix4 b i k o) = F (ix3 b ⟨i.val * 30 + k.val, by omega⟩ o) := by
  pointwise []

theorem cut_second (F : Vec Ideal S2x512x32 .i32) (b : Fin 2) (i : Fin 512) (k : Fin 30) :
    extractStridedSlice S2x512x30 ![0, 0, 0] F slices_S2x512x32_S2x512x30_0_0_0 (ix3 b i k) = F (ix3 b i ⟨k.val, by omega⟩) := by
  pointwise []

/-- Two arrays that agree at every place are one. -/
theorem all4 {α : Type} (f h : S2x512x30x128.Idx → α) (e : ∀ b i k o, f (ix4 b i k o) = h (ix4 b i k o)) : f = h :=
  funext fun y => (congrArg f (eq_ix4 y)).trans ((e _ _ _ _).trans (congrArg h (eq_ix4 y)).symm)
theorem all3 {n : ℕ} {α : Type} (f h : (⟨3, ![2, 512, n]⟩ : Shape).Idx → α) (e : ∀ b i k, f (ix3 b i k) = h (ix3 b i k)) : f = h :=
  funext fun y => (congrArg f (eq_ix3 y)).trans ((e _ _ _).trans (congrArg h (eq_ix3 y)).symm)

theorem end20 (hf : ∀ b i j, away (places (argX m c) b) (shown (argM m c) b) i j < ⊤) :
    Pipeline.afterTail₀ cfgs (dats m) 0 (V0 m) [hostOps1] c main_v20 = firstResult m c := by
  rw [after20, final19 m c hf]
  refine all4 _ _ fun b i k o => (cast_first _ b i k o).trans ?_
  have hi : (i.val * 30 + k.val) / 30 = i.val := by omega
  have hk : (i.val * 30 + k.val) % 30 = k.val := by omega
  show firstAt _ _ _ _ _ _ _ _ b ⟨(i.val * 30 + k.val) / 30, _⟩ ((i.val * 30 + k.val) % 30) o = firstAt _ _ _ _ _ _ _ _ b i k.val o
  simp only [hi, hk]

theorem end21 : Pipeline.afterTail₀ cfgs (dats m) 0 (V0 m) [hostOps1] c main_v21 = secondResult m c := by
  rw [after21, final20 m c]
  refine all3 _ _ fun b i k => (cut_second _ b i k).trans ?_
  exact congrArg (BitVec.ofNat 32) (if_pos k.isLt)

theorem ends (hf : ∀ c b i j, away (places (argX m c) b) (shown (argM m c) b) i j < ⊤) :
    θ_run defs (onTc (τ := τ) (main (F := Ideal))) ⟨m, fun _ => 0, g⟩ (fun r => ∀ c : Dev nD,
      r.2.mem ((c.tc : Thread nD τ).loc main_v20) = firstResult m c
      ∧ r.2.mem ((c.tc : Thread nD τ).loc main_v21) = secondResult m c
      ∧ r.2.mem ((c.tc : Thread nD τ).loc main_v19_2) = thirdResult m c) :=
  (θ_run defs _ _).mono (fun _ h c =>
      ⟨((h c).2 main_v20 (Pipeline.mem_restRefs_of main_v20 (by decide) (by decide))).trans (end20 m c (hf c)),
       ((h c).2 main_v21 (Pipeline.mem_restRefs_of main_v21 (by decide) (by decide))).trans (end21 m c),
       ((h c).1 21).trans (final21 m c)⟩)
    (run_main m g)

end Cert.Edges
-- ==== Proof.RefSites.lean ====
/- The reference's sites, the distances between Cα's, and its third result. -/
module

public import proofs.«01_k».proof.Proof.Final
public import proofs.«01_k».proof.Proof.Gen.ReferenceIdeal.Read

@[expose] public section

set_option maxRecDepth 16384

noncomputable section

namespace Cert.Edges

open Idealize.ShloMosaic
open Cert.ReferenceIdeal Cert.ReferenceIdeal.Read

variable (x3 : Vec Ideal S2x512x5x3 .f32) (x6 : Vec Ideal S2x512 .f32) (b : Fin 2) (i j : Fin 512)

theorem refN (d : Fin 3) : val_main_v49 (F := Ideal) x3 (ix3 b i d) = places x3 b i ⟨d, by omega⟩ := by
  pointwise [val_main_v49, val_main_v48]
  fin_cases d <;> rfl

theorem refA (d : Fin 3) : val_main_v47 (F := Ideal) x3 (ix3 b i d) = places x3 b i ⟨3 + d, by omega⟩ := by
  pointwise [val_main_v47, val_main_v46]
  fin_cases d <;> rfl

theorem refC (d : Fin 3) : val_main_v51 (F := Ideal) x3 (ix3 b i d) = places x3 b i ⟨6 + d, by omega⟩ := by
  pointwise [val_main_v51, val_main_v50]
  fin_cases d <;> rfl

theorem refO (d : Fin 3) : val_main_v53 (F := Ideal) x3 (ix3 b i d) = places x3 b i ⟨12 + d, by omega⟩ := by
  pointwise [val_main_v53, val_main_v52]
  fin_cases d <;> rfl

theorem refArmB (d : Fin 3) : val_main_v4 (F := Ideal) x3 (ix3 b i d) = armB (places x3 b i) d := by
  pointwise [val_main_v4, val_main_v1, val_main_v0, val_main_v3, val_main_v2]
  fin_cases d <;> rfl

theorem refArmC (d : Fin 3) : val_main_v9 (F := Ideal) x3 (ix3 b i d) = armC (places x3 b i) d := by
  pointwise [val_main_v9, val_main_v6, val_main_v5, val_main_v8, val_main_v7]
  fin_cases d <;> rfl

theorem refCross (d : Fin 3) : val_main_v34 (F := Ideal) x3 (ix3 b i d) = cross (places x3 b i) d := by
  unfold val_main_v34
  rw [concatenate_apply]
  fin_cases d
  · show val_main_v31 (F := Ideal) x3 (ix3 b i 0) = _
    pointwise [val_main_v31, val_main_v24, val_main_v22, val_main_v23, val_main_v13, val_main_v12, val_main_v21, val_main_v20, val_main_v15, val_main_v14, val_main_v19, val_main_v18]
    simp only [refArmB, refArmC]
    rfl
  · show val_main_v32 (F := Ideal) x3 (ix3 b i 0) = _
    pointwise [val_main_v32, val_main_v27, val_main_v25, val_main_v26, val_main_v11, val_main_v10, val_main_v21, val_main_v20, val_main_v15, val_main_v14, val_main_v17, val_main_v16]
    simp only [refArmB, refArmC]
    rfl
  · show val_main_v33 (F := Ideal) x3 (ix3 b i 0) = _
    pointwise [val_main_v33, val_main_v30, val_main_v28, val_main_v29, val_main_v11, val_main_v10, val_main_v13, val_main_v12, val_main_v17, val_main_v16, val_main_v19, val_main_v18]
    simp only [refArmB, refArmC]
    rfl

theorem refVirt (d : Fin 3) : val_main_v45 (F := Ideal) x3 (ix3 b i d) = virt (places x3 b i) d := by
  pointwise [val_main_v45, val_main_v42, val_main_v39, val_main_v36, val_main_v38, val_main_v41, val_main_v35, val_main_v37, val_main_v40, val_main_v44, val_main_v43,
    val_main_cst, val_main_cst_0, val_main_cst_1]
  simp only [refCross, refArmB, refArmC]
  fin_cases d <;> rfl

theorem square_comm (a b : EReal) : (a - b) * (a - b) = (b - a) * (b - a) := by
  induction a <;> induction b
  case coe.coe x y =>
    rw [← EReal.coe_sub, ← EReal.coe_sub, ← EReal.coe_mul, ← EReal.coe_mul]
    exact congrArg _ (by ring)
  all_goals simp

theorem refGap : val_main_v68 (F := Ideal) x3 (ix3 b i j) = gap (places x3 b i) (places x3 b j) := by
  pointwise [val_main_v68, val_main_v67, val_main_v66, val_main_v65, val_main_v64, val_main_v63, val_main_v61, val_main_v62, val_main_v59, val_main_v60,
    val_main_cst_2, val_main_cst_3]
  simp only [refA]
  unfold gap
  exact congrArg Ideal.sqrt (congrArg (· + eps) (Finset.sum_congr rfl fun d _ => square_comm ..))

theorem refAway : val_main_v76 (F := Ideal) x3 x6 (ix3 b i j) = away (places x3 b) (shown x6 b) i j := by
  pointwise [val_main_v76, val_main_v69, val_main_v75, val_main_v73, val_main_v74, val_main_v71, val_main_v70, val_main_v58, val_main_v56, val_main_v57, val_main_v54, val_main_v55, val_main_v72,
    val_main_cst_4, val_main_cst_5]
  simp only [refGap]
  simp only [fold_max, mul_comm (x6 (ix2 b _)) (x6 (ix2 b i))]
  rfl

theorem refThird (x0 : Vec Ideal S2x16x3 .f32) (x4 : Vec Ideal S2x512x3x78 .f32) (a : Fin 94) :
    val_main_v246 (F := Ideal) x0 x3 x4 (ix3 b i a) = thirdAt x3 x4 x0 b i a := by
  pointwise [val_main_v246, val_main_v245, val_main_v244, val_main_v243, val_main_v242, val_main_v241, val_main_v240, val_main_v239, val_main_v238, val_main_v237, val_main_v236,
    val_main_v235, val_main_cst_36, val_main_cst_37]
  simp only [refVirt]
  unfold thirdAt reach
  have e : ∀ d : Fin 3, (if h : a.val < 78 then x4 (ix4 b i ⟨a / 26, by omega⟩ ⟨a % 26 * 3 + d, by omega⟩) else x0 (ix3 b ⟨a - 78, by omega⟩ d))
      = if h : a.val < 78 then sides x4 b i ⟨a, h⟩ d else x0 (ix3 b ⟨a - 78, by omega⟩ d) := fun d => by
    split
    · exact congrArg₂ (fun u v => x4 (ix4 b i u v)) (Fin.ext (by simp only []; omega)) (Fin.ext (by simp only []; omega))
    · rfl
  simp only [e]
  rfl
end Cert.Edges
-- ==== Proof.RefPick.lean ====
/- The reference's top-k: the nearest residues and their distances. -/
module

public import proofs.«01_k».proof.Proof.RefSites

@[expose] public section

set_option maxRecDepth 16384

noncomputable section

namespace Cert.Edges

open Idealize.ShloMosaic
open Cert.ReferenceIdeal Cert.ReferenceIdeal.Read

theorem along_last (b : Fin 2) (i k : Fin 512) (l : Fin 512) : (ix3 b i k : S2x512x512.Idx).along (2 : Fin 3) l = ix3 b i l := by
  funext a
  fin_cases a <;> rfl

theorem greater (a b : EReal) : (FloatOps.cmpfTotal (F := Ideal) (φ := .f32) .gt (-a) (-b) == 1#1) = decide (a < b) := by
  show (BitVec.ofBool (decide (-b < -a)) == 1#1) = _
  by_cases h : a < b <;> simp [EReal.neg_lt_neg_iff, h]

theorem top_of (x : FVec Ideal S2x512x512 .f32) (fits : S2x512x512.Slices (fun _ => 0) S2x512x30) (f : Fin 512 → EReal) (hf : ∀ l, f l < ⊤) (b : Fin 2) (i : Fin 512)
    (hx : ∀ l, x (ix3 b i l) = -f l) (k : Fin 30) :
    (Host.topK S2x512x30 2 (FloatOps.cmpfTotal .gt) x fits).1 (ix3 b i k) = -f (pick f k)
      ∧ (Host.topK S2x512x30 2 (FloatOps.cmpfTotal .gt) x fits).2 (ix3 b i k) = BitVec.ofNat 32 (pick f k).val := by
  have h30 : 30 ≤ 512 := by omega
  have hs : sortedFrom (fun a a' : Fin 512 => FloatOps.cmpfTotal (F := Ideal) (φ := .f32) .gt (x (ix3 b i a)) (x (ix3 b i a')) == 1#1)
      (k.castLE h30) = pick f k := by
    simp only [hx, greater]
    exact sortedFrom_pick f hf 30 (by omega) k
  have h0 : ∀ {α : Type} (v : S2x512x512.Idx → α), extractStridedSlice S2x512x30 (fun _ => 0) v fits (ix3 b i k)
      = v (ix3 b i (k.castLE h30)) := fun v => by
    pointwise
    rfl
  unfold Host.topK
  simp only [h0]
  unfold Host.sort2
  rw [dif_pos (by decide)]
  have key : (ix3 b i (k.castLE h30 : Fin 512) : S2x512x512.Idx).along (2 : Fin 3) (sortedFrom (fun a a' : Fin 512 =>
      FloatOps.cmpfTotal (F := Ideal) (φ := .f32) .gt (x ((ix3 b i (k.castLE h30 : Fin 512) : S2x512x512.Idx).along (2 : Fin 3) a))
        (x ((ix3 b i (k.castLE h30 : Fin 512) : S2x512x512.Idx).along (2 : Fin 3) a')) == 1#1) (k.castLE h30))
      = ix3 b i (pick f k) := by
    refine (along_last ..).trans (congrArg (ix3 b i) (Eq.trans ?_ hs))
    exact congrArg (fun g => sortedFrom g (k.castLE h30)) (funext fun a => funext fun a' =>
      congrArg₂ (fun u v => FloatOps.cmpfTotal (F := Ideal) (φ := .f32) .gt (x u) (x v) == 1#1) (along_last ..) (along_last ..))
  refine ⟨(congrArg x key).trans (hx _), ?_⟩
  exact congrArg (iotaInDim S2x512x512 32 (2 : Fin 3)) key

variable (x3 : Vec Ideal S2x512x5x3 .f32) (x6 : Vec Ideal S2x512 .f32) (b : Fin 2) (i : Fin 512)
  (hf : ∀ j, away (places x3 b) (shown x6 b) i j < ⊤) (k : Fin 30)
include hf

/-- The `k`-th nearest residue. -/
theorem refNbr : val_main_indices (F := Ideal) x3 x6 (ix3 b i k) = BitVec.ofNat 32 (nbr (places x3 b) (shown x6 b) i k).val :=
  (top_of _ _ (away (places x3 b) (shown x6 b) i) hf b i (fun l => congrArg (fun v : EReal => -v) (refAway x3 x6 b i l)) k).2

/-- Its distance. -/
theorem refNear : val_main_v78 (F := Ideal) x3 x6 (ix3 b i k)
    = away (places x3 b) (shown x6 b) i (nbr (places x3 b) (shown x6 b) i k) :=
  (congrArg (fun v : EReal => -v) (top_of (val_main_v77 (F := Ideal) x3 x6) _ (away (places x3 b) (shown x6 b) i) hf b i
    (fun l => congrArg (fun v : EReal => -v) (refAway x3 x6 b i l)) k).1).trans (neg_neg _)

end Cert.Edges
-- ==== Proof.RefTake.lean ====
/- The reference's gathers along the neighbours' axis. -/
module

public import proofs.«01_k».proof.Proof.RefPick

@[expose] public section

set_option maxRecDepth 16384

noncomputable section

namespace Cert.Edges

open Idealize.ShloMosaic
open Cert.ReferenceIdeal Cert.ReferenceIdeal.Read

theorem toInt_max (x y : BitVec 32) : (IntOp.maxsi x y).toInt = max x.toInt y.toInt := by
  unfold IntOp.maxsi
  split <;> rename_i h <;> simp only [BitVec.slt, BitVec.sle, decide_eq_true_eq] at h <;> omega

theorem toInt_min (x y : BitVec 32) : (IntOp.minsi x y).toInt = min x.toInt y.toInt := by
  unfold IntOp.minsi
  split <;> rename_i h <;> simp only [BitVec.slt, BitVec.sle, decide_eq_true_eq] at h <;> omega

theorem clipped (x y : BitVec 32) (hx : 0 ≤ x.toInt ∧ x.toInt < 1024) (hy : 0 ≤ y.toInt ∧ y.toInt < 1024) :
    IntOp.minsi 64#32 (IntOp.maxsi 0#32 (x - y + 32#32)) = BitVec.ofNat 32 (turn x.toInt y.toInt).val := by
  have h1 : (x - y).toInt = x.toInt - y.toInt := by
    rw [BitVec.toInt_sub]
    exact Int.bmod_eq_of_le (by norm_num; omega) (by norm_num; omega)
  have h32 : (32#32 : BitVec 32).toInt = 32 := by decide
  have h2 : (x - y + 32#32).toInt = x.toInt - y.toInt + 32 := by
    rw [BitVec.toInt_add, h1, h32]
    exact Int.bmod_eq_of_le (by norm_num; omega) (by norm_num; omega)
  refine BitVec.eq_of_toInt_eq ?_
  rw [toInt_min, toInt_max, h2, toInt_ofNat (k := (turn x.toInt y.toInt).val) (by omega)]
  show min (64#32 : BitVec 32).toInt (max (0#32 : BitVec 32).toInt _) = (((max 0 (min 64 (x.toInt - y.toInt + 32))).toNat : ℕ) : ℤ)
  rw [show (64#32 : BitVec 32).toInt = 64 by decide, show (0#32 : BitVec 32).toInt = 0 by decide]
  omega

variable {α : Type} (b : Fin 2) (i : Fin 512) (k : Fin 30) (n : Fin 512)

theorem word_clamped : min (BitVec.ofNat 32 n.val).toInt.toNat (512 - 1) = n.val := by
  rw [toInt_ofNat (by omega)]; omega

theorem take24 (x : S2x512x512x24.Idx → α) (idx : IVec S2x512x30x24x1 32) (q : Fin 24)
    (h : idx (ix5 b i k q 0) = BitVec.ofNat 32 n.val) :
    Host.gather gather_S2x512x512x24_S2x512x30x24x1_S2x512x30x24_n_2_013_013_2_4_1111 x idx (ix4 b i k q) = x (ix4 b i n q) := by
  refine congrArg x (funext fun a => Fin.ext ?_)
  match a with
  | ⟨0, _⟩ => exact Nat.zero_add b.val
  | ⟨1, _⟩ => exact Nat.zero_add i.val
  | ⟨2, _⟩ => exact (congrArg (fun w : BitVec 32 => min w.toInt.toNat (512 - 1) + 0 + 0) ((congrArg idx (funext fun c => Fin.ext (by match c with | ⟨0, _⟩ => rfl | ⟨1, _⟩ => rfl | ⟨2, _⟩ => rfl | ⟨3, _⟩ => rfl | ⟨4, _⟩ => rfl))).trans h)).trans (word_clamped n)
  | ⟨3, _⟩ => exact Nat.zero_add q.val

theorem take1 (x : S2x512x512x1.Idx → α) (idx : IVec S2x512x30x1 32)
    (h : idx (ix4 b i k 0) = BitVec.ofNat 32 n.val) :
    Host.gather gather_S2x512x512x1_S2x512x30x1_S2x512x30x1_3_2_01_01_2_3_1111 x idx (ix4 b i k 0) = x (ix4 b i n 0) := by
  refine congrArg x (funext fun a => Fin.ext ?_)
  match a with
  | ⟨0, _⟩ => exact Nat.zero_add b.val
  | ⟨1, _⟩ => exact Nat.zero_add i.val
  | ⟨2, _⟩ => exact (congrArg (fun w : BitVec 32 => min w.toInt.toNat (512 - 1) + 0 + 0) ((congrArg idx (funext fun c => Fin.ext (by match c with | ⟨0, _⟩ => rfl | ⟨1, _⟩ => rfl | ⟨2, _⟩ => rfl | ⟨3, _⟩ => rfl))).trans h)).trans (word_clamped n)
  | ⟨3, _⟩ => rfl

variable (x3 : Vec Ideal S2x512x5x3 .f32) (x6 : Vec Ideal S2x512 .f32)

/-- A position in range is not wrapped. -/
theorem kept_word : Scalar.select (IntOp.cmpi CmpIPredicate.slt (BitVec.ofNat 32 n.val) 0#32) (IntOp.addi (BitVec.ofNat 32 n.val) 512#32)
    (BitVec.ofNat 32 n.val) = BitVec.ofNat 32 n.val := by
  have h : (BitVec.ofNat 32 n.val).toInt = n.val := toInt_ofNat (by omega)
  have h' : ¬ (n.val : ℤ) < 0 := by omega
  simp [Scalar.select, IntOp.cmpi, BitVec.slt, h, h']

theorem picked (x y : α) : Scalar.select 1#1 x y = x := rfl

/-- A position in range passes the bounds' check. -/
theorem passes : IntOp.andi (IntOp.cmpi CmpIPredicate.sge (BitVec.ofNat 32 n.val) 0#32) (IntOp.cmpi CmpIPredicate.sle (BitVec.ofNat 32 n.val) 511#32)
    = 1#1 := by
  have h : (BitVec.ofNat 32 n.val).toInt = n.val := toInt_ofNat (by omega)
  have h' : (n.val : ℤ) ≤ 511 := by omega
  simp [IntOp.andi, IntOp.cmpi, BitVec.sle, h, h']

section
variable (q : Fin 24) (h : val_main_indices (F := Ideal) x3 x6 (ix3 b i k) = BitVec.ofNat 32 n.val)
include h

theorem start0 : val_main_call0_v5 (F := Ideal) x3 x6 (ix5 b i k q 0) = BitVec.ofNat 32 n.val := by
  pointwise [val_main_call0_v5, val_main_call0_v4, val_main_call0_v3, val_main_call0_v1, val_main_v144, val_main_v143, val_main_call0_v0, val_main_call0_v2, val_main_call0_c, val_main_call0_c_0]
  rw [h, kept_word]

theorem within0 : val_main_call0_v12 (F := Ideal) x3 x6 (ix4 b i k q) = 1#1 := by
  pointwise [val_main_call0_v12, val_main_call0_v11, val_main_call0_v7, val_main_call0_v10, val_main_call0_v6, val_main_call0_v9, val_main_call0_v8, val_main_call0_c_1, val_main_call0_c_2, val_main_call0_c_3]
  rw [Finset.univ_unique, Finset.fold_singleton]
  rw [show (default : Fin 1) = 0 from rfl, start0 b i k n x3 x6 q h, passes]
  rfl

theorem taken0 : val_main_v145 (F := Ideal) x3 x6 (ix4 b i k q) = val_main_v142 (F := Ideal) x3 (ix4 b i n q) := by
  pointwise [val_main_v145]
  rw [within0 b i k n x3 x6 q h, picked]
  exact take24 b i k n _ _ q (start0 b i k n x3 x6 q h)
end

section
variable (h : val_main_indices (F := Ideal) x3 x6 (ix3 b i k) = BitVec.ofNat 32 n.val)
include h

theorem start1 : val_main_call1_v4 (F := Ideal) x3 x6 (ix4 b i k 0) = BitVec.ofNat 32 n.val := by
  pointwise [val_main_call1_v4, val_main_call1_v3, val_main_call1_v1, val_main_v182, val_main_call1_v0, val_main_call1_v2, val_main_call1_c, val_main_call1_c_0]
  rw [h, kept_word]

theorem within1 : val_main_call1_v11 (F := Ideal) x3 x6 (ix3 b i k) = 1#1 := by
  pointwise [val_main_call1_v11, val_main_call1_v10, val_main_call1_v6, val_main_call1_v9, val_main_call1_v5, val_main_call1_v8, val_main_call1_v7, val_main_call1_c_1, val_main_call1_c_2, val_main_call1_c_3]
  rw [Finset.univ_unique, Finset.fold_singleton]
  rw [show (default : Fin 1) = 0 from rfl, start1 b i k n x3 x6 h, passes]
  rfl

variable (x8 x9 : Vec Ideal S2x512 .i32)

theorem taken1 : val_main_v184 (F := Ideal) x3 x6 x8 (ix3 b i k) = x8 (ix2 b i) - x8 (ix2 b n) := by
  pointwise [val_main_v184, val_main_v183, val_main_call1_v13]
  rw [within1 b i k n x3 x6 h, picked]
  refine (take1 b i k n _ _ (start1 b i k n x3 x6 h)).trans ?_
  pointwise [val_main_v181, val_main_v180, val_main_v178, val_main_v179, val_main_v176, val_main_v177]
  rfl

theorem start2 : val_main_call2_v4 (F := Ideal) x3 x6 (ix4 b i k 0) = BitVec.ofNat 32 n.val := by
  pointwise [val_main_call2_v4, val_main_call2_v3, val_main_call2_v1, val_main_v198, val_main_call2_v0, val_main_call2_v2, val_main_call2_c, val_main_call2_c_0]
  rw [h, kept_word]

theorem within2 : val_main_call2_v11 (F := Ideal) x3 x6 (ix3 b i k) = 1#1 := by
  pointwise [val_main_call2_v11, val_main_call2_v10, val_main_call2_v6, val_main_call2_v9, val_main_call2_v5, val_main_call2_v8, val_main_call2_v7, val_main_call2_c_1, val_main_call2_c_2, val_main_call2_c_3]
  rw [Finset.univ_unique, Finset.fold_singleton]
  rw [show (default : Fin 1) = 0 from rfl, start2 b i k n x3 x6 h, passes]
  rfl

theorem taken2 : val_main_v200 (F := Ideal) x3 x6 x9 (ix3 b i k) = 1#32 := by
  pointwise [val_main_v200, val_main_v199, val_main_call2_v13]
  rw [within2 b i k n x3 x6 h, picked]
  refine (take1 b i k n _ _ (start2 b i k n x3 x6 h)).trans ?_
  pointwise [val_main_v197, val_main_v196, val_main_v195, val_main_v194, val_main_v193, val_main_c_25, val_main_c_26]
  simp [IntOp.addi, IntOp.muli]

theorem refTurn (hN : ∀ b i, 0 ≤ number x8 b i ∧ number x8 b i < 1024) :
    val_main_v209 (F := Ideal) x3 x6 x8 x9 (ix3 b i k) = BitVec.ofNat 32 (turn (number x8 b i) (number x8 b n)).val := by
  pointwise [val_main_v209, val_main_v204, val_main_v208, val_main_v207, val_main_v206, val_main_v205, val_main_v203, val_main_v202, val_main_v201, val_main_call3_v1, val_main_call3_v2, val_main_call3_v4, val_main_call3_v3, val_main_call3_v0, val_main_c_27, val_main_c_28, val_main_c_29, val_main_c_30, val_main_c_31]
  rw [taken1 b i k n x3 x6 h, taken2 b i k n x3 x6 h]
  refine Eq.trans ?_ (clipped (x8 (ix2 b i)) (x8 (ix2 b n)) (hN b i) (hN b n))
  show IntOp.minsi 64#32 (IntOp.maxsi 0#32 (x8 (ix2 b i) - x8 (ix2 b n) + 32#32)) * 1#32 + (1#32 - 1#32) * 65#32 = _
  simp
end

end Cert.Edges
-- ==== Proof.RefPairs.lean ====
/- The reference's twenty-four pairs of sites and their distances. -/
module

public import proofs.«01_k».proof.Proof.RefTake

@[expose] public section

set_option maxRecDepth 16384

noncomputable section

namespace Cert.Edges

open Idealize.ShloMosaic
open Cert.ReferenceIdeal Cert.ReferenceIdeal.Read

variable (x3 : Vec Ideal S2x512x5x3 .f32) (b : Fin 2) (i j : Fin 512)

/-- The five sites' arrays. -/
def siteArray : Fin 5 → Vec Ideal S2x512x3 .f32 :=
  ![val_main_v49 (F := Ideal) x3, val_main_v47 (F := Ideal) x3, val_main_v51 (F := Ideal) x3, val_main_v53 (F := Ideal) x3, val_main_v45 (F := Ideal) x3]

theorem siteArray_apply (s : Fin 5) (d : Fin 3) : siteArray x3 s (ix3 b i d) = site (places x3 b i) (coord s d) := by
  fin_cases s
  · exact (refN x3 b i d).trans (by fin_cases d <;> rfl)
  · exact (refA x3 b i d).trans (by fin_cases d <;> rfl)
  · exact (refC x3 b i d).trans (by fin_cases d <;> rfl)
  · exact (refO x3 b i d).trans (by fin_cases d <;> rfl)
  · exact (refVirt x3 b i d).trans (by fin_cases d <;> rfl)

theorem flat (v : Vec Ideal S2x512x3 .f32) (d : Fin 3) :
    broadcastInDim S2x512x1x3 ![0, 1, 3] Gen.bcast_S2x512x3_S2x512x1x3_0_1_3 v (ix4 b i 0 d) = v (ix3 b i d) := by
  pointwise

/-- A site's array with an axis of extent one before the coordinates. -/
def spread (s : Fin 5) : Vec Ideal S2x512x1x3 .f32 :=
  broadcastInDim S2x512x1x3 ![0, 1, 3] Gen.bcast_S2x512x3_S2x512x1x3_0_1_3 (siteArray x3 s)

/-- A stack of sites read at its `q`-th piece. -/
theorem stacked {n : ℕ} (f : Fin n → Fin 5) (l : List ((s : Shape) × Vec Ideal s .f32))
    (hl : l = List.ofFn fun q => ⟨S2x512x1x3, spread x3 (f q)⟩)
    (h : Shape.Concatenates (l.map (·.1)) ⟨4, ![2, 512, n, 3]⟩ 2) (q : Fin n) (d : Fin 3) :
    concatenate (⟨4, ![2, 512, n, 3]⟩ : Shape) 2 l h (ix4 b i q d) = siteArray x3 (f q) (ix3 b i d) := by
  subst hl
  exact (concatenate_ofFn_unit_apply (t := ⟨4, ![2, 512, n, 3]⟩) (s₁ := S2x512x1x3) 2 (fun q => spread x3 (f q)) h rfl rfl (ix4 b i q d) q rfl
    (ix4 b i 0 d) fun a ha => by match a with | ⟨0, _⟩ => rfl | ⟨1, _⟩ => rfl | ⟨2, _⟩ => exact absurd rfl ha | ⟨3, _⟩ => rfl).trans
    (flat b i (siteArray x3 _) d)

theorem stackALow (q : Fin 16) (d : Fin 3) : val_main_v103 (F := Ideal) x3 (ix4 b i q d) = siteArray x3 (siteA ⟨q, by omega⟩) (ix3 b i d) := by
  unfold val_main_v103
  refine stacked x3 b i (fun q : Fin 16 => siteA ⟨q, by omega⟩) _ ?_ _ q d
  rfl

theorem stackAHigh (q : Fin 8) (d : Fin 3) : val_main_v104 (F := Ideal) x3 (ix4 b i q d) = siteArray x3 (siteA ⟨q + 16, by omega⟩) (ix3 b i d) := by
  unfold val_main_v104
  refine stacked x3 b i (fun q : Fin 8 => siteA ⟨q + 16, by omega⟩) _ ?_ _ q d
  rfl

theorem stackA (q : Fin 24) (d : Fin 3) : val_main_v105 (F := Ideal) x3 (ix4 b i q d) = siteArray x3 (siteA q) (ix3 b i d) := by
  pointwise [val_main_v105]
  split
  · exact stackALow ..
  · exact (stackAHigh ..).trans (congrArg (fun q => siteArray x3 (siteA q) (ix3 b i d)) (Fin.ext (by simp only []; omega)))

theorem stackBLow (q : Fin 16) (d : Fin 3) : val_main_v130 (F := Ideal) x3 (ix4 b i q d) = siteArray x3 (siteB ⟨q, by omega⟩) (ix3 b i d) := by
  unfold val_main_v130
  refine stacked x3 b i (fun q : Fin 16 => siteB ⟨q, by omega⟩) _ ?_ _ q d
  rfl

theorem stackBHigh (q : Fin 8) (d : Fin 3) : val_main_v131 (F := Ideal) x3 (ix4 b i q d) = siteArray x3 (siteB ⟨q + 16, by omega⟩) (ix3 b i d) := by
  unfold val_main_v131
  refine stacked x3 b i (fun q : Fin 8 => siteB ⟨q + 16, by omega⟩) _ ?_ _ q d
  rfl

theorem stackB (q : Fin 24) (d : Fin 3) : val_main_v132 (F := Ideal) x3 (ix4 b i q d) = siteArray x3 (siteB q) (ix3 b i d) := by
  pointwise [val_main_v132]
  split
  · exact stackBLow ..
  · exact (stackBHigh ..).trans (congrArg (fun q => siteArray x3 (siteB q) (ix3 b i d)) (Fin.ext (by simp only []; omega)))

theorem refApart (q : Fin 24) : val_main_v142 (F := Ideal) x3 (ix4 b i j q) = apart (places x3 b i) (places x3 b j) q := by
  pointwise [val_main_v142, val_main_v141, val_main_v140, val_main_v139, val_main_v138, val_main_v137, val_main_v136, val_main_v135, val_main_v134, val_main_v133,
    val_main_cst_6, val_main_cst_7]
  simp only [stackA, stackB, siteArray_apply]
  rfl

end Cert.Edges
-- ==== Proof.RefEdges.lean ====
/- The reference's edge features and its first result. -/
module

public import proofs.«01_k».proof.Proof.RefPairs

@[expose] public section

set_option maxRecDepth 16384

noncomputable section

namespace Cert.Edges

open Idealize.ShloMosaic
open Cert.ReferenceIdeal Cert.ReferenceIdeal.Read

/-- The sixteen centres. -/
theorem refCentre (n : Fin 16) : val_main_v164 (F := Ideal) (ix1 n) = Ideal.ofBits .f32 (centreWord n) := by
  have key : ∀ (l : List ((s : Shape) × Vec Ideal s .f32))
      (hl : l = List.ofFn fun q : Fin 16 => ⟨S1, broadcastInDim S1 ![] Gen.bcast_S_S1 (constant (F := Ideal) S_ .f32 (centreWord q))⟩)
      (h : Shape.Concatenates (l.map (·.1)) S16 0), concatenate S16 0 l h (ix1 n) = Ideal.ofBits .f32 (centreWord n) := fun l hl h => by
    subst hl
    exact (concatenate_ofFn_unit_apply (t := S16) (s₁ := S1) 0 _ h rfl rfl (ix1 n) n rfl
      (ix1 0) fun a ha => by match a with | ⟨0, _⟩ => exact absurd rfl ha).trans rfl
  unfold val_main_v164
  refine key _ ?_ _
  rfl

/-- Multiplication by a finite number spreads over the sum of any number and a finite one. -/
theorem spread_mul (a : EReal) (u w : ℝ) : (a + u) * w = a * w + u * w := by
  induction a with
  | coe x => rw [← EReal.coe_add, ← EReal.coe_mul, ← EReal.coe_mul, ← EReal.coe_mul, ← EReal.coe_add, add_mul]
  | top =>
    rw [EReal.top_add_coe, ← EReal.coe_mul]
    rcases lt_trichotomy w 0 with h | h | h
    · rw [EReal.top_mul_coe_of_neg h, EReal.bot_add]
    · simp [h]
    · rw [EReal.top_mul_coe_of_pos h, EReal.top_add_coe]
  | bot =>
    rw [EReal.bot_add, ← EReal.coe_mul]
    rcases lt_trichotomy w 0 with h | h | h
    · rw [EReal.bot_mul_coe_of_neg h, EReal.top_add_coe]
    · simp [h]
    · rw [EReal.bot_mul_coe_of_pos h, EReal.bot_add]

theorem scaled (x : EReal) : Ideal.div x (Ideal.ofBits FTy.f32 1067450368#32) = x * ((4 / 5 : ℝ) : EReal) := by
  rw [show Ideal.ofBits FTy.f32 1067450368#32 = _ from word_sigma, Ideal.div_coe (by norm_num)]
  norm_num

/-- A comparison as a number. -/
theorem one_num (x y : BitVec 32) : FloatOps.uitofp (F := Ideal) FTy.f32 (IntOp.cmpi CmpIPredicate.eq x y) = if x = y then 1 else 0 := by
  show (((BitVec.ofBool (x == y)).toNat : ℝ) : EReal) = _
  by_cases h : x = y
  · simp [h]
  · simp [h]

/-- The number of values a mean is taken over. -/
theorem count_less_none : Ideal.ofBits .f32 0x43000000#32 - (((0#32 : BitVec 32).toInt : ℝ) : EReal) = Ideal.ofBits .f32 0x43000000#32 := by
  simp

theorem word_128 : Ideal.ofBits .f32 0x43000000#32 = ((128 : ℝ) : EReal) := by
  simp [Ideal.ofBits, Ideal.ieee, -EReal.coe_mul]; norm_num

theorem count_pos : (0 : EReal) < Ideal.ofBits .f32 0x43000000#32 := by
  rw [show Ideal.ofBits .f32 0x43000000#32 = _ from word_128]
  exact EReal.coe_pos.mpr (by norm_num)

variable (x3 : Vec Ideal S2x512x5x3 .f32) (x6 : Vec Ideal S2x512 .f32) (b : Fin 2) (i : Fin 512)
  (hf : ∀ j, away (places x3 b) (shown x6 b) i j < ⊤) (k : Fin 30)
include hf

theorem refFeat (g : Fin 25) : val_main_v147 (F := Ideal) x3 x6 (ix4 b i k g) = feat (places x3 b) (shown x6 b) i k g := by
  pointwise [val_main_v147, val_main_v146]
  unfold feat
  split
  · exact refNear x3 x6 b i hf k
  · exact (taken0 b i k _ x3 x6 _ (refNbr x3 x6 b i hf k)).trans (refApart ..)

theorem refBump (j : Fin 400) : val_main_v175 (F := Ideal) x3 x6 (ix4 b i k j) = bump (places x3 b) (shown x6 b) i k j := by
  pointwise [val_main_v175, val_main_v174, val_main_v173, val_main_v172, val_main_v171, val_main_v170, val_main_v169, val_main_v168, val_main_v167, val_main_v166, val_main_v165, val_main_cst_24]
  simp only [refFeat x3 x6 b i hf k, refCentre, scaled]
  rfl

variable (x8 x9 : Vec Ideal S2x512 .i32) (hN : ∀ b i, 0 ≤ number x8 b i ∧ number x8 b i < 1024)
  (x10 : Vec Ideal S66x16 .f32) (x11 : Vec Ideal S16 .f32) (x12 : Vec Ideal S416x128 .f32)
include hN

theorem refPos (c : Fin 16) : val_main_v214 (F := Ideal) x3 x6 x8 x9 x10 x11 (ix4 b i k c)
    = x10 (ix2 (turn (number x8 b i) (number x8 b (nbr (places x3 b) (shown x6 b) i k))) c) + x11 (ix1 c) := by
  pointwise [val_main_v214, val_main_v213, val_main_v212, val_main_v211, val_main_v210, val_main_call4_v4, val_main_call4_v2, val_main_call4_v0, val_main_call4_v3, val_main_call4_v1]
  simp only [refTurn b i k _ x3 x6 (refNbr x3 x6 b i hf k) x8 x9 hN]
  refine congrArg (· + _) ?_
  simp only [one_num]
  exact select_left (fun x => x10 (ix2 x c)) _ (turn _ _) fun x => by
    rw [word_inj (by have := (turn (number x8 b i) (number x8 b (nbr (places x3 b) (shown x6 b) i k))).isLt; omega) (by omega), Fin.ext_iff]
    exact eq_comm

theorem refMixed (hU : ∀ c, ∃ u : ℝ, x11 (ix1 c) = u) (hW : ∀ (c : Fin 16) o, ∃ w : ℝ, x12 (ix2 ⟨c, by omega⟩ o) = w) (o : Fin 128) :
    val_main_v216 (F := Ideal) x3 x6 x8 x9 x10 x11 x12 (ix4 b i k o)
    = mixed (places x3 b) (shown x6 b) (number x8 b) (fun u k => x10 (ix2 u k)) (fun k => x11 (ix1 k)) (fun j o => x12 (ix2 j o)) i k o := by
  pointwise [val_main_v216, val_main_v215]
  simp only [refPos x3 x6 b i hf k x8 x9 hN, refBump x3 x6 b i hf k]
  unfold mixed
  rw [add_comm, add_assoc, ← Finset.sum_add_distrib]
  refine congrArg (_ + ·) (Finset.sum_congr rfl fun c _ => ?_)
  obtain ⟨u, hu⟩ := hU c
  obtain ⟨w, hw⟩ := hW c o
  show (_ + x11 (ix1 c)) * x12 (ix2 ⟨c, _⟩ o) = _ * x12 (ix2 ⟨c, _⟩ o) + x11 (ix1 c) * x12 (ix2 ⟨c, _⟩ o)
  rw [hu, hw, spread_mul]

theorem refFirst (hU : ∀ c, ∃ u : ℝ, x11 (ix1 c) = u) (hW : ∀ (c : Fin 16) o, ∃ w : ℝ, x12 (ix2 ⟨c, by omega⟩ o) = w) (x13 x14 : Vec Ideal S128 .f32) (o : Fin 128) :
    val_main_v234 (F := Ideal) x3 x6 x8 x9 x10 x11 x12 x13 x14 (ix4 b i k o) = firstAt x3 x6 x8 x10 x11 x12 x13 x14 b i k o := by
  pointwise [val_main_v234, val_main_v233, val_main_v232, val_main_v231, val_main_v230, val_main_v229, val_main_v228, val_main_v227, val_main_v226, val_main_v225, val_main_v224, val_main_v223, val_main_v222, val_main_v221, val_main_v220, val_main_v219, val_main_v218, val_main_v217,
    val_main_call5_v0, val_main_call5_v1, val_main_call5_v2, val_main_call5_v3, val_main_call5_v4, val_main_call5_v5, val_main_call5_v6, val_main_call5_v9, val_main_call5_v10, val_main_call5_v11, val_main_call5_v12, val_main_call5_v13]
  simp only [refMixed x3 x6 b i hf k x8 x9 hN x10 x11 x12 hU hW]
  rw [show val_main_call5_v8 (F := Ideal) ix0 = Ideal.ofBits .f32 0x43000000#32 from count_less_none,
    show val_main_call5_cst_3 (F := Ideal) ix0 = 0 from Ideal.ofBits_zero_f32, if_pos count_pos]
  simp only [show val_main_cst_32 (F := Ideal) (Shape.Idx.first Gen.h_S_) = 0 from Ideal.ofBits_zero_f32,
    show val_main_call5_cst (F := Ideal) (Shape.Idx.first Gen.h_S_) = 0 from Ideal.ofBits_zero_f32,
    show val_main_call5_cst_2 (F := Ideal) (Shape.Idx.first Gen.h_S_) = 0 from Ideal.ofBits_zero_f32, zero_add]
  rfl

end Cert.Edges
-- ==== Proof.Runs.lean ====
/- The two programs' runs: the kernel's three results are the reference's. -/
module

public import proofs.«01_k».proof.Proof.Given
public import proofs.«01_k».proof.Proof.Ends
public import proofs.«01_k».proof.Proof.RefEdges
public import Idealize.ShloMosaic.Lib.Claim

@[expose] public section

set_option maxRecDepth 16384

noncomputable section

namespace Cert.Edges

open Idealize.ShloMosaic Idealize.SL.Sem

theorem algebraic : Cert.algebraic_KernelIdeal_ReferenceIdeal_pre_finite_and_in_range := by
  intro m g m' g' hpre hagree
  have hf : ∀ c b i j, away (places (argX m c) b) (shown (argM m c) b) i j < ⊤ := fun c => givenAway m hpre c
  refine ⟨firstResult m, secondResult m, thirdResult m, ?_, ?_⟩
  · exact (θ_run Cert.KernelIdeal.defs _ _).mono (fun _ h c => ⟨(h.1 c).1, (h.1 c).2.1, (h.1 c).2.2, h.2 c⟩)
      (θ_run_and (ends m g hf) (Cert.KernelIdeal.Gen.unchanged m g))
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' g')
    · refine (Cert.ReferenceIdeal.Read.val_main_v234_eq (F := Ideal) _).trans ?_
      obtain ⟨h0, h1, h2, h3, h4, h5, h6, h7, h8, h9, h10, h11, h12, h13, h14⟩ := hagree c
      simp only [StableHlo.launchContents_devRef, h3, h6, h8, h9, h10, h11, h12, h13, h14]
      exact all4 _ _ fun b i k o => refFirst (argX m c) (argM m c) b i (hf c b i) k (argN m c) _ (givenN m hpre c)
        (argT m c) (argU m c) (argW m c) (givenU m hpre c) (givenW m hpre c) (argG m c) (argB m c) o
    · refine (Cert.ReferenceIdeal.Read.val_main_indices_eq (F := Ideal) _).trans ?_
      obtain ⟨h0, h1, h2, h3, h4, h5, h6, h7, h8, h9, h10, h11, h12, h13, h14⟩ := hagree c
      simp only [StableHlo.launchContents_devRef, h3, h6]
      exact all3 _ _ fun b i k => refNbr (argX m c) (argM m c) b i (hf c b i) k
    · refine (Cert.ReferenceIdeal.Read.val_main_v246_eq (F := Ideal) _).trans ?_
      obtain ⟨h0, h1, h2, h3, h4, h5, h6, h7, h8, h9, h10, h11, h12, h13, h14⟩ := hagree c
      simp only [StableHlo.launchContents_devRef, h0, h3, h4]
      exact all3 _ _ fun b i a => refThird (argX m c) b i (argZ m c) (argY m c) a

end Cert.Edges
-- ==== Proof.lean ====
/- The claims of this directory, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.Pre_finite_and_in_range
public import proofs.«01_k».proof.Proof.Runs
public import Idealize.ShloMosaic.Adequacy
public import Idealize.ShloMosaic.Init

@[expose] public section

noncomputable section

namespace Cert.Proof

open Idealize.ShloMosaic Idealize.SL.Sem Cert.Kernel

/-- The reference ends with its arguments unchanged; it has no counters at all, so they are all at zero. -/
theorem frame_reference : Cert.quiescent_ReferenceIdeal := fun m g _ =>
  (θ_run Cert.ReferenceIdeal.defs _ _).mono
    (fun r h => ⟨fun c => (h c).2.2.2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  Cert.Pre_finite_and_in_range.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  ⟨IdealRules.named_const.statement Cert.KernelIdeal.κ "far" .f32 0x7149F2CA#32 ⊤ rfl,
    IdealRules.named_const.statement Cert.KernelIdeal.κ "inv_sigma" .f32 0x3F4CCCCD#32 ((4 / 5 : ℝ) : EReal) rfl⟩,
  Cert.Edges.algebraic⟩

end Cert.Proof

end
